-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S64x512 : Shape := ⟨2, ![64, 512]⟩
abbrev S16x64x512 : Shape := ⟨3, ![16, 64, 512]⟩
abbrev S16 : Shape := ⟨1, ![16]⟩
abbrev S_ : Shape := ⟨0, ![]⟩
abbrev S1 : Shape := ⟨1, ![1]⟩
abbrev S1x64x512 : Shape := ⟨3, ![1, 64, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .local _ .vmem, ⟨0, _⟩ => ⟨S1024x512, .f32⟩
  | .local _ .vmem, ⟨1, _⟩ => ⟨S1024x512, .bf16⟩
  | .local _ .vmem, ⟨2, _⟩ => ⟨S1024x512, .bf16⟩
  | .local _ .vmem, ⟨3, _⟩ => ⟨S64x512, .f32⟩
  | .local _ .vmem, ⟨4, _⟩ => ⟨S16x64x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v3 : BitVec 32 := Scalar.muli v2 c64_i32
  v3
def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v6 : BitVec 32 := Scalar.addi v2 c1_i32_0
  let c16_i32_1 : BitVec 32 := 16#32
  let c0_i32 : BitVec 32 := 0#32
  let v7 : BitVec 1 := Scalar.cmpi .eq c16_i32_1 c0_i32
  let c1_i32_2 : BitVec 32 := 1#32
  let v8 : BitVec 32 := Scalar.select v7 c1_i32_2 c16_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_7 : BitVec 32 := 1#32
  let v17 : BitVec 32 := Scalar.muli v16 c1_i32_7
  let v18 : BitVec 32 := Scalar.addi c0_i32_8 v17
  v18.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v19 : BitVec 32 := Scalar.addi v2 c2_i32
  let c16_i32_9 : BitVec 32 := 16#32
  let c0_i32_10 : BitVec 32 := 0#32
  let v20 : BitVec 1 := Scalar.cmpi .eq c16_i32_9 c0_i32_10
  let c1_i32_11 : BitVec 32 := 1#32
  let v21 : BitVec 32 := Scalar.select v20 c1_i32_11 c16_i32_9
  let v22 : BitVec 32 := Scalar.remsi v19 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c1_i32_16 : BitVec 32 := 1#32
  let v30 : BitVec 32 := Scalar.muli v29 c1_i32_16
  let v31 : BitVec 32 := Scalar.addi c0_i32_17 v30
  v31.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v32 : BitVec 32 := Scalar.addi v2 c3_i32
  let c16_i32_18 : BitVec 32 := 16#32
  let c0_i32_19 : BitVec 32 := 0#32
  let v33 : BitVec 1 := Scalar.cmpi .eq c16_i32_18 c0_i32_19
  let c1_i32_20 : BitVec 32 := 1#32
  let v34 : BitVec 32 := Scalar.select v33 c1_i32_20 c16_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c1_i32_25 : BitVec 32 := 1#32
  let v43 : BitVec 32 := Scalar.muli v42 c1_i32_25
  let v44 : BitVec 32 := Scalar.addi c0_i32_26 v43
  v44.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v45 : BitVec 32 := Scalar.addi v2 c4_i32
  let c16_i32_27 : BitVec 32 := 16#32
  let c0_i32_28 : BitVec 32 := 0#32
  let v46 : BitVec 1 := Scalar.cmpi .eq c16_i32_27 c0_i32_28
  let c1_i32_29 : BitVec 32 := 1#32
  let v47 : BitVec 32 := Scalar.select v46 c1_i32_29 c16_i32_27
  let v48 : BitVec 32 := Scalar.remsi v45 v47
  let c0_i32_31 : BitVec 32 := 0#32
  let v50 : BitVec 1 := Scalar.cmpi .slt v48 c0_i32_31
  let c0_i32_32 : BitVec 32 := 0#32
  let v51 : BitVec 1 := Scalar.cmpi .slt v47 c0_i32_32
  let v52 : BitVec 1 := Scalar.xori v50 v51
  let c0_i32_30 : BitVec 32 := 0#32
  let v49 : BitVec 1 := Scalar.cmpi .ne v48 c0_i32_30
  let v53 : BitVec 1 := Scalar.andi v52 v49
  let v54 : BitVec 32 := Scalar.addi v48 v47
  let v55 : BitVec 32 := Scalar.select v53 v54 v48
  let c1_i32_34 : BitVec 32 := 1#32
  let v56 : BitVec 32 := Scalar.muli v55 c1_i32_34
  let v57 : BitVec 32 := Scalar.addi c0_i32_35 v56
  v57.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v58 : BitVec 32 := Scalar.addi v2 c5_i32
  let c16_i32_36 : BitVec 32 := 16#32
  let c0_i32_37 : BitVec 32 := 0#32
  let v59 : BitVec 1 := Scalar.cmpi .eq c16_i32_36 c0_i32_37
  let c1_i32_38 : BitVec 32 := 1#32
  let v60 : BitVec 32 := Scalar.select v59 c1_i32_38 c16_i32_36
  let v61 : BitVec 32 := Scalar.remsi v58 v60
  let c0_i32_40 : BitVec 32 := 0#32
  let v63 : BitVec 1 := Scalar.cmpi .slt v61 c0_i32_40
  let c0_i32_41 : BitVec 32 := 0#32
  let v64 : BitVec 1 := Scalar.cmpi .slt v60 c0_i32_41
  let v65 : BitVec 1 := Scalar.xori v63 v64
  let c0_i32_39 : BitVec 32 := 0#32
  let v62 : BitVec 1 := Scalar.cmpi .ne v61 c0_i32_39
  let v66 : BitVec 1 := Scalar.andi v65 v62
  let v67 : BitVec 32 := Scalar.addi v61 v60
  let v68 : BitVec 32 := Scalar.select v66 v67 v61
  let c1_i32_43 : BitVec 32 := 1#32
  let v69 : BitVec 32 := Scalar.muli v68 c1_i32_43
  let v70 : BitVec 32 := Scalar.addi c0_i32_44 v69
  v70.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v71 : BitVec 32 := Scalar.addi v2 c6_i32
  let c16_i32_45 : BitVec 32 := 16#32
  let c0_i32_46 : BitVec 32 := 0#32
  let v72 : BitVec 1 := Scalar.cmpi .eq c16_i32_45 c0_i32_46
  let c1_i32_47 : BitVec 32 := 1#32
  let v73 : BitVec 32 := Scalar.select v72 c1_i32_47 c16_i32_45
  let v74 : BitVec 32 := Scalar.remsi v71 v73
  let c0_i32_49 : BitVec 32 := 0#32
  let v76 : BitVec 1 := Scalar.cmpi .slt v74 c0_i32_49
  let c0_i32_50 : BitVec 32 := 0#32
  let v77 : BitVec 1 := Scalar.cmpi .slt v73 c0_i32_50
  let v78 : BitVec 1 := Scalar.xori v76 v77
  let c0_i32_48 : BitVec 32 := 0#32
  let v75 : BitVec 1 := Scalar.cmpi .ne v74 c0_i32_48
  let v79 : BitVec 1 := Scalar.andi v78 v75
  let v80 : BitVec 32 := Scalar.addi v74 v73
  let v81 : BitVec 32 := Scalar.select v79 v80 v74
  let c1_i32_52 : BitVec 32 := 1#32
  let v82 : BitVec 32 := Scalar.muli v81 c1_i32_52
  let v83 : BitVec 32 := Scalar.addi c0_i32_53 v82
  v83.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v84 : BitVec 32 := Scalar.addi v2 c7_i32
  let c16_i32_54 : BitVec 32 := 16#32
  let c0_i32_55 : BitVec 32 := 0#32
  let v85 : BitVec 1 := Scalar.cmpi .eq c16_i32_54 c0_i32_55
  let c1_i32_56 : BitVec 32 := 1#32
  let v86 : BitVec 32 := Scalar.select v85 c1_i32_56 c16_i32_54
  let v87 : BitVec 32 := Scalar.remsi v84 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let c1_i32_61 : BitVec 32 := 1#32
  let v95 : BitVec 32 := Scalar.muli v94 c1_i32_61
  let v96 : BitVec 32 := Scalar.addi c0_i32_62 v95
  v96.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v97 : BitVec 32 := Scalar.addi v2 c8_i32
  let c16_i32_63 : BitVec 32 := 16#32
  let c0_i32_64 : BitVec 32 := 0#32
  let v98 : BitVec 1 := Scalar.cmpi .eq c16_i32_63 c0_i32_64
  let c1_i32_65 : BitVec 32 := 1#32
  let v99 : BitVec 32 := Scalar.select v98 c1_i32_65 c16_i32_63
  let v100 : BitVec 32 := Scalar.remsi v97 v99
  let c0_i32_67 : BitVec 32 := 0#32
  let v102 : BitVec 1 := Scalar.cmpi .slt v100 c0_i32_67
  let c0_i32_68 : BitVec 32 := 0#32
  let v103 : BitVec 1 := Scalar.cmpi .slt v99 c0_i32_68
  let v104 : BitVec 1 := Scalar.xori v102 v103
  let c0_i32_66 : BitVec 32 := 0#32
  let v101 : BitVec 1 := Scalar.cmpi .ne v100 c0_i32_66
  let v105 : BitVec 1 := Scalar.andi v104 v101
  let v106 : BitVec 32 := Scalar.addi v100 v99
  let v107 : BitVec 32 := Scalar.select v105 v106 v100
  let c1_i32_70 : BitVec 32 := 1#32
  let v108 : BitVec 32 := Scalar.muli v107 c1_i32_70
  let v109 : BitVec 32 := Scalar.addi c0_i32_71 v108
  v109.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v110 : BitVec 32 := Scalar.addi v2 c9_i32
  let c16_i32_72 : BitVec 32 := 16#32
  let c0_i32_73 : BitVec 32 := 0#32
  let v111 : BitVec 1 := Scalar.cmpi .eq c16_i32_72 c0_i32_73
  let c1_i32_74 : BitVec 32 := 1#32
  let v112 : BitVec 32 := Scalar.select v111 c1_i32_74 c16_i32_72
  let v113 : BitVec 32 := Scalar.remsi v110 v112
  let c0_i32_76 : BitVec 32 := 0#32
  let v115 : BitVec 1 := Scalar.cmpi .slt v113 c0_i32_76
  let c0_i32_77 : BitVec 32 := 0#32
  let v116 : BitVec 1 := Scalar.cmpi .slt v112 c0_i32_77
  let v117 : BitVec 1 := Scalar.xori v115 v116
  let c0_i32_75 : BitVec 32 := 0#32
  let v114 : BitVec 1 := Scalar.cmpi .ne v113 c0_i32_75
  let v118 : BitVec 1 := Scalar.andi v117 v114
  let v119 : BitVec 32 := Scalar.addi v113 v112
  let v120 : BitVec 32 := Scalar.select v118 v119 v113
  let c1_i32_79 : BitVec 32 := 1#32
  let v121 : BitVec 32 := Scalar.muli v120 c1_i32_79
  let v122 : BitVec 32 := Scalar.addi c0_i32_80 v121
  v122.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v123 : BitVec 32 := Scalar.addi v2 c10_i32
  let c16_i32_81 : BitVec 32 := 16#32
  let c0_i32_82 : BitVec 32 := 0#32
  let v124 : BitVec 1 := Scalar.cmpi .eq c16_i32_81 c0_i32_82
  let c1_i32_83 : BitVec 32 := 1#32
  let v125 : BitVec 32 := Scalar.select v124 c1_i32_83 c16_i32_81
  let v126 : BitVec 32 := Scalar.remsi v123 v125
  let c0_i32_85 : BitVec 32 := 0#32
  let v128 : BitVec 1 := Scalar.cmpi .slt v126 c0_i32_85
  let c0_i32_86 : BitVec 32 := 0#32
  let v129 : BitVec 1 := Scalar.cmpi .slt v125 c0_i32_86
  let v130 : BitVec 1 := Scalar.xori v128 v129
  let c0_i32_84 : BitVec 32 := 0#32
  let v127 : BitVec 1 := Scalar.cmpi .ne v126 c0_i32_84
  let v131 : BitVec 1 := Scalar.andi v130 v127
  let v132 : BitVec 32 := Scalar.addi v126 v125
  let v133 : BitVec 32 := Scalar.select v131 v132 v126
  let c1_i32_88 : BitVec 32 := 1#32
  let v134 : BitVec 32 := Scalar.muli v133 c1_i32_88
  let v135 : BitVec 32 := Scalar.addi c0_i32_89 v134
  v135.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v136 : BitVec 32 := Scalar.addi v2 c11_i32
  let c16_i32_90 : BitVec 32 := 16#32
  let c0_i32_91 : BitVec 32 := 0#32
  let v137 : BitVec 1 := Scalar.cmpi .eq c16_i32_90 c0_i32_91
  let c1_i32_92 : BitVec 32 := 1#32
  let v138 : BitVec 32 := Scalar.select v137 c1_i32_92 c16_i32_90
  let v139 : BitVec 32 := Scalar.remsi v136 v138
  let c0_i32_94 : BitVec 32 := 0#32
  let v141 : BitVec 1 := Scalar.cmpi .slt v139 c0_i32_94
  let c0_i32_95 : BitVec 32 := 0#32
  let v142 : BitVec 1 := Scalar.cmpi .slt v138 c0_i32_95
  let v143 : BitVec 1 := Scalar.xori v141 v142
  let c0_i32_93 : BitVec 32 := 0#32
  let v140 : BitVec 1 := Scalar.cmpi .ne v139 c0_i32_93
  let v144 : BitVec 1 := Scalar.andi v143 v140
  let v145 : BitVec 32 := Scalar.addi v139 v138
  let v146 : BitVec 32 := Scalar.select v144 v145 v139
  let c1_i32_97 : BitVec 32 := 1#32
  let v147 : BitVec 32 := Scalar.muli v146 c1_i32_97
  let v148 : BitVec 32 := Scalar.addi c0_i32_98 v147
  v148.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v149 : BitVec 32 := Scalar.addi v2 c12_i32
  let c16_i32_99 : BitVec 32 := 16#32
  let c0_i32_100 : BitVec 32 := 0#32
  let v150 : BitVec 1 := Scalar.cmpi .eq c16_i32_99 c0_i32_100
  let c1_i32_101 : BitVec 32 := 1#32
  let v151 : BitVec 32 := Scalar.select v150 c1_i32_101 c16_i32_99
  let v152 : BitVec 32 := Scalar.remsi v149 v151
  let c0_i32_103 : BitVec 32 := 0#32
  let v154 : BitVec 1 := Scalar.cmpi .slt v152 c0_i32_103
  let c0_i32_104 : BitVec 32 := 0#32
  let v155 : BitVec 1 := Scalar.cmpi .slt v151 c0_i32_104
  let v156 : BitVec 1 := Scalar.xori v154 v155
  let c0_i32_102 : BitVec 32 := 0#32
  let v153 : BitVec 1 := Scalar.cmpi .ne v152 c0_i32_102
  let v157 : BitVec 1 := Scalar.andi v156 v153
  let v158 : BitVec 32 := Scalar.addi v152 v151
  let v159 : BitVec 32 := Scalar.select v157 v158 v152
  let c1_i32_106 : BitVec 32 := 1#32
  let v160 : BitVec 32 := Scalar.muli v159 c1_i32_106
  let v161 : BitVec 32 := Scalar.addi c0_i32_107 v160
  v161.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v162 : BitVec 32 := Scalar.addi v2 c13_i32
  let c16_i32_108 : BitVec 32 := 16#32
  let c0_i32_109 : BitVec 32 := 0#32
  let v163 : BitVec 1 := Scalar.cmpi .eq c16_i32_108 c0_i32_109
  let c1_i32_110 : BitVec 32 := 1#32
  let v164 : BitVec 32 := Scalar.select v163 c1_i32_110 c16_i32_108
  let v165 : BitVec 32 := Scalar.remsi v162 v164
  let c0_i32_112 : BitVec 32 := 0#32
  let v167 : BitVec 1 := Scalar.cmpi .slt v165 c0_i32_112
  let c0_i32_113 : BitVec 32 := 0#32
  let v168 : BitVec 1 := Scalar.cmpi .slt v164 c0_i32_113
  let v169 : BitVec 1 := Scalar.xori v167 v168
  let c0_i32_111 : BitVec 32 := 0#32
  let v166 : BitVec 1 := Scalar.cmpi .ne v165 c0_i32_111
  let v170 : BitVec 1 := Scalar.andi v169 v166
  let v171 : BitVec 32 := Scalar.addi v165 v164
  let v172 : BitVec 32 := Scalar.select v170 v171 v165
  let c1_i32_115 : BitVec 32 := 1#32
  let v173 : BitVec 32 := Scalar.muli v172 c1_i32_115
  let v174 : BitVec 32 := Scalar.addi c0_i32_116 v173
  v174.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v175 : BitVec 32 := Scalar.addi v2 c14_i32
  let c16_i32_117 : BitVec 32 := 16#32
  let c0_i32_118 : BitVec 32 := 0#32
  let v176 : BitVec 1 := Scalar.cmpi .eq c16_i32_117 c0_i32_118
  let c1_i32_119 : BitVec 32 := 1#32
  let v177 : BitVec 32 := Scalar.select v176 c1_i32_119 c16_i32_117
  let v178 : BitVec 32 := Scalar.remsi v175 v177
  let c0_i32_121 : BitVec 32 := 0#32
  let v180 : BitVec 1 := Scalar.cmpi .slt v178 c0_i32_121
  let c0_i32_122 : BitVec 32 := 0#32
  let v181 : BitVec 1 := Scalar.cmpi .slt v177 c0_i32_122
  let v182 : BitVec 1 := Scalar.xori v180 v181
  let c0_i32_120 : BitVec 32 := 0#32
  let v179 : BitVec 1 := Scalar.cmpi .ne v178 c0_i32_120
  let v183 : BitVec 1 := Scalar.andi v182 v179
  let v184 : BitVec 32 := Scalar.addi v178 v177
  let v185 : BitVec 32 := Scalar.select v183 v184 v178
  let c1_i32_124 : BitVec 32 := 1#32
  let v186 : BitVec 32 := Scalar.muli v185 c1_i32_124
  let v187 : BitVec 32 := Scalar.addi c0_i32_125 v186
  v187.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v188 : BitVec 32 := Scalar.addi v2 c15_i32
  let c16_i32_126 : BitVec 32 := 16#32
  let c0_i32_127 : BitVec 32 := 0#32
  let v189 : BitVec 1 := Scalar.cmpi .eq c16_i32_126 c0_i32_127
  let c1_i32_128 : BitVec 32 := 1#32
  let v190 : BitVec 32 := Scalar.select v189 c1_i32_128 c16_i32_126
  let v191 : BitVec 32 := Scalar.remsi v188 v190
  let c0_i32_130 : BitVec 32 := 0#32
  let v193 : BitVec 1 := Scalar.cmpi .slt v191 c0_i32_130
  let c0_i32_131 : BitVec 32 := 0#32
  let v194 : BitVec 1 := Scalar.cmpi .slt v190 c0_i32_131
  let v195 : BitVec 1 := Scalar.xori v193 v194
  let c0_i32_129 : BitVec 32 := 0#32
  let v192 : BitVec 1 := Scalar.cmpi .ne v191 c0_i32_129
  let v196 : BitVec 1 := Scalar.andi v195 v192
  let v197 : BitVec 32 := Scalar.addi v191 v190
  let v198 : BitVec 32 := Scalar.select v196 v197 v191
  let c1_i32_133 : BitVec 32 := 1#32
  let v199 : BitVec 32 := Scalar.muli v198 c1_i32_133
  let v200 : BitVec 32 := Scalar.addi c0_i32_134 v199
  v200.toNat
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_136 : BitVec 32 := 1#32
  let v201 : BitVec 32 := Scalar.addi v2 c1_i32_136
  let c16_i32_137 : BitVec 32 := 16#32
  let c0_i32_138 : BitVec 32 := 0#32
  let v202 : BitVec 1 := Scalar.cmpi .eq c16_i32_137 c0_i32_138
  let c1_i32_139 : BitVec 32 := 1#32
  let v203 : BitVec 32 := Scalar.select v202 c1_i32_139 c16_i32_137
  let v204 : BitVec 32 := Scalar.remsi v201 v203
  let c0_i32_141 : BitVec 32 := 0#32
  let v206 : BitVec 1 := Scalar.cmpi .slt v204 c0_i32_141
  let c0_i32_142 : BitVec 32 := 0#32
  let v207 : BitVec 1 := Scalar.cmpi .slt v203 c0_i32_142
  let v208 : BitVec 1 := Scalar.xori v206 v207
  let c0_i32_140 : BitVec 32 := 0#32
  let v205 : BitVec 1 := Scalar.cmpi .ne v204 c0_i32_140
  let v209 : BitVec 1 := Scalar.andi v208 v205
  let v210 : BitVec 32 := Scalar.addi v204 v203
  let v211 : BitVec 32 := Scalar.select v209 v210 v204
  let c64_i32_143 : BitVec 32 := 64#32
  let v212 : BitVec 32 := Scalar.muli v211 c64_i32_143
  v212
def k0_off1 (d0 : Dev nD) (c1_i32_136 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v201 : BitVec 32 := Scalar.addi v2 c1_i32_136
  let c16_i32_137 : BitVec 32 := 16#32
  let c0_i32_138 : BitVec 32 := 0#32
  let v202 : BitVec 1 := Scalar.cmpi .eq c16_i32_137 c0_i32_138
  let c1_i32_139 : BitVec 32 := 1#32
  let v203 : BitVec 32 := Scalar.select v202 c1_i32_139 c16_i32_137
  let v204 : BitVec 32 := Scalar.remsi v201 v203
  let c0_i32_141 : BitVec 32 := 0#32
  let v206 : BitVec 1 := Scalar.cmpi .slt v204 c0_i32_141
  let c0_i32_142 : BitVec 32 := 0#32
  let v207 : BitVec 1 := Scalar.cmpi .slt v203 c0_i32_142
  let v208 : BitVec 1 := Scalar.xori v206 v207
  let c0_i32_140 : BitVec 32 := 0#32
  let v205 : BitVec 1 := Scalar.cmpi .ne v204 c0_i32_140
  let v209 : BitVec 1 := Scalar.andi v208 v205
  let v210 : BitVec 32 := Scalar.addi v204 v203
  let v211 : BitVec 32 := Scalar.select v209 v210 v204
  let c64_i32_143 : BitVec 32 := 64#32
  let v212 : BitVec 32 := Scalar.muli v211 c64_i32_143
  let v213 : BitVec 32 := v212
  let v214 : Index := Scalar.indexCast v213
  let c0 : Index := 0#32
  ![v214.toNat, 0]
def k0_off2 (d0 : Dev nD) (c1_i32_136 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v201 : BitVec 32 := Scalar.addi v2 c1_i32_136
  let c16_i32_137 : BitVec 32 := 16#32
  let c0_i32_138 : BitVec 32 := 0#32
  let v202 : BitVec 1 := Scalar.cmpi .eq c16_i32_137 c0_i32_138
  let c1_i32_139 : BitVec 32 := 1#32
  let v203 : BitVec 32 := Scalar.select v202 c1_i32_139 c16_i32_137
  let v204 : BitVec 32 := Scalar.remsi v201 v203
  let c0_i32_141 : BitVec 32 := 0#32
  let v206 : BitVec 1 := Scalar.cmpi .slt v204 c0_i32_141
  let c0_i32_142 : BitVec 32 := 0#32
  let v207 : BitVec 1 := Scalar.cmpi .slt v203 c0_i32_142
  let v208 : BitVec 1 := Scalar.xori v206 v207
  let c0_i32_140 : BitVec 32 := 0#32
  let v205 : BitVec 1 := Scalar.cmpi .ne v204 c0_i32_140
  let v209 : BitVec 1 := Scalar.andi v208 v205
  let v210 : BitVec 32 := Scalar.addi v204 v203
  let v211 : BitVec 32 := Scalar.select v209 v210 v204
  ![v211.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_147 : BitVec 32 := 0#32
  let c0_i32_148 : BitVec 32 := 0#32
  ![v2.toNat, 0, 0]
def k0_off5 (d0 : Dev nD) (c1_i32_136 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v201 : BitVec 32 := Scalar.addi v2 c1_i32_136
  let c16_i32_137 : BitVec 32 := 16#32
  let c0_i32_138 : BitVec 32 := 0#32
  let v202 : BitVec 1 := Scalar.cmpi .eq c16_i32_137 c0_i32_138
  let c1_i32_139 : BitVec 32 := 1#32
  let v203 : BitVec 32 := Scalar.select v202 c1_i32_139 c16_i32_137
  let v204 : BitVec 32 := Scalar.remsi v201 v203
  let c0_i32_141 : BitVec 32 := 0#32
  let v206 : BitVec 1 := Scalar.cmpi .slt v204 c0_i32_141
  let c0_i32_142 : BitVec 32 := 0#32
  let v207 : BitVec 1 := Scalar.cmpi .slt v203 c0_i32_142
  let v208 : BitVec 1 := Scalar.xori v206 v207
  let c0_i32_140 : BitVec 32 := 0#32
  let v205 : BitVec 1 := Scalar.cmpi .ne v204 c0_i32_140
  let v209 : BitVec 1 := Scalar.andi v208 v205
  let v210 : BitVec 32 := Scalar.addi v204 v203
  let v211 : BitVec 32 := Scalar.select v209 v210 v204
  let c64_i32_143 : BitVec 32 := 64#32
  let v212 : BitVec 32 := Scalar.muli v211 c64_i32_143
  let v213 : BitVec 32 := v212
  let c0_i32_149 : BitVec 32 := 0#32
  ![v213.toNat, 0]
def k0_dev16 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_136 : BitVec 32 := 1#32
  let v201 : BitVec 32 := Scalar.addi v2 c1_i32_136
  let c16_i32_137 : BitVec 32 := 16#32
  let c0_i32_138 : BitVec 32 := 0#32
  let v202 : BitVec 1 := Scalar.cmpi .eq c16_i32_137 c0_i32_138
  let c1_i32_139 : BitVec 32 := 1#32
  let v203 : BitVec 32 := Scalar.select v202 c1_i32_139 c16_i32_137
  let v204 : BitVec 32 := Scalar.remsi v201 v203
  let c0_i32_141 : BitVec 32 := 0#32
  let v206 : BitVec 1 := Scalar.cmpi .slt v204 c0_i32_141
  let c0_i32_142 : BitVec 32 := 0#32
  let v207 : BitVec 1 := Scalar.cmpi .slt v203 c0_i32_142
  let v208 : BitVec 1 := Scalar.xori v206 v207
  let c0_i32_140 : BitVec 32 := 0#32
  let v205 : BitVec 1 := Scalar.cmpi .ne v204 c0_i32_140
  let v209 : BitVec 1 := Scalar.andi v208 v205
  let v210 : BitVec 32 := Scalar.addi v204 v203
  let v211 : BitVec 32 := Scalar.select v209 v210 v204
  let c1_i32_145 : BitVec 32 := 1#32
  let v222 : BitVec 32 := Scalar.muli v211 c1_i32_145
  let v223 : BitVec 32 := Scalar.addi c0_i32_146 v222
  v223.toNat
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_150 : BitVec 32 := 2#32
  let v231 : BitVec 32 := Scalar.addi v2 c2_i32_150
  let c16_i32_151 : BitVec 32 := 16#32
  let c0_i32_152 : BitVec 32 := 0#32
  let v232 : BitVec 1 := Scalar.cmpi .eq c16_i32_151 c0_i32_152
  let c1_i32_153 : BitVec 32 := 1#32
  let v233 : BitVec 32 := Scalar.select v232 c1_i32_153 c16_i32_151
  let v234 : BitVec 32 := Scalar.remsi v231 v233
  let c0_i32_155 : BitVec 32 := 0#32
  let v236 : BitVec 1 := Scalar.cmpi .slt v234 c0_i32_155
  let c0_i32_156 : BitVec 32 := 0#32
  let v237 : BitVec 1 := Scalar.cmpi .slt v233 c0_i32_156
  let v238 : BitVec 1 := Scalar.xori v236 v237
  let c0_i32_154 : BitVec 32 := 0#32
  let v235 : BitVec 1 := Scalar.cmpi .ne v234 c0_i32_154
  let v239 : BitVec 1 := Scalar.andi v238 v235
  let v240 : BitVec 32 := Scalar.addi v234 v233
  let v241 : BitVec 32 := Scalar.select v239 v240 v234
  let c64_i32_157 : BitVec 32 := 64#32
  let v242 : BitVec 32 := Scalar.muli v241 c64_i32_157
  v242
def k0_dev17 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_150 : BitVec 32 := 2#32
  let v231 : BitVec 32 := Scalar.addi v2 c2_i32_150
  let c16_i32_151 : BitVec 32 := 16#32
  let c0_i32_152 : BitVec 32 := 0#32
  let v232 : BitVec 1 := Scalar.cmpi .eq c16_i32_151 c0_i32_152
  let c1_i32_153 : BitVec 32 := 1#32
  let v233 : BitVec 32 := Scalar.select v232 c1_i32_153 c16_i32_151
  let v234 : BitVec 32 := Scalar.remsi v231 v233
  let c0_i32_155 : BitVec 32 := 0#32
  let v236 : BitVec 1 := Scalar.cmpi .slt v234 c0_i32_155
  let c0_i32_156 : BitVec 32 := 0#32
  let v237 : BitVec 1 := Scalar.cmpi .slt v233 c0_i32_156
  let v238 : BitVec 1 := Scalar.xori v236 v237
  let c0_i32_154 : BitVec 32 := 0#32
  let v235 : BitVec 1 := Scalar.cmpi .ne v234 c0_i32_154
  let v239 : BitVec 1 := Scalar.andi v238 v235
  let v240 : BitVec 32 := Scalar.addi v234 v233
  let v241 : BitVec 32 := Scalar.select v239 v240 v234
  let c1_i32_160 : BitVec 32 := 1#32
  let v252 : BitVec 32 := Scalar.muli v241 c1_i32_160
  let v253 : BitVec 32 := Scalar.addi c0_i32_161 v252
  v253.toNat
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_165 : BitVec 32 := 3#32
  let v261 : BitVec 32 := Scalar.addi v2 c3_i32_165
  let c16_i32_166 : BitVec 32 := 16#32
  let c0_i32_167 : BitVec 32 := 0#32
  let v262 : BitVec 1 := Scalar.cmpi .eq c16_i32_166 c0_i32_167
  let c1_i32_168 : BitVec 32 := 1#32
  let v263 : BitVec 32 := Scalar.select v262 c1_i32_168 c16_i32_166
  let v264 : BitVec 32 := Scalar.remsi v261 v263
  let c0_i32_170 : BitVec 32 := 0#32
  let v266 : BitVec 1 := Scalar.cmpi .slt v264 c0_i32_170
  let c0_i32_171 : BitVec 32 := 0#32
  let v267 : BitVec 1 := Scalar.cmpi .slt v263 c0_i32_171
  let v268 : BitVec 1 := Scalar.xori v266 v267
  let c0_i32_169 : BitVec 32 := 0#32
  let v265 : BitVec 1 := Scalar.cmpi .ne v264 c0_i32_169
  let v269 : BitVec 1 := Scalar.andi v268 v265
  let v270 : BitVec 32 := Scalar.addi v264 v263
  let v271 : BitVec 32 := Scalar.select v269 v270 v264
  let c64_i32_172 : BitVec 32 := 64#32
  let v272 : BitVec 32 := Scalar.muli v271 c64_i32_172
  v272
def k0_dev18 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_165 : BitVec 32 := 3#32
  let v261 : BitVec 32 := Scalar.addi v2 c3_i32_165
  let c16_i32_166 : BitVec 32 := 16#32
  let c0_i32_167 : BitVec 32 := 0#32
  let v262 : BitVec 1 := Scalar.cmpi .eq c16_i32_166 c0_i32_167
  let c1_i32_168 : BitVec 32 := 1#32
  let v263 : BitVec 32 := Scalar.select v262 c1_i32_168 c16_i32_166
  let v264 : BitVec 32 := Scalar.remsi v261 v263
  let c0_i32_170 : BitVec 32 := 0#32
  let v266 : BitVec 1 := Scalar.cmpi .slt v264 c0_i32_170
  let c0_i32_171 : BitVec 32 := 0#32
  let v267 : BitVec 1 := Scalar.cmpi .slt v263 c0_i32_171
  let v268 : BitVec 1 := Scalar.xori v266 v267
  let c0_i32_169 : BitVec 32 := 0#32
  let v265 : BitVec 1 := Scalar.cmpi .ne v264 c0_i32_169
  let v269 : BitVec 1 := Scalar.andi v268 v265
  let v270 : BitVec 32 := Scalar.addi v264 v263
  let v271 : BitVec 32 := Scalar.select v269 v270 v264
  let c1_i32_175 : BitVec 32 := 1#32
  let v282 : BitVec 32 := Scalar.muli v271 c1_i32_175
  let v283 : BitVec 32 := Scalar.addi c0_i32_176 v282
  v283.toNat
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_180 : BitVec 32 := 4#32
  let v291 : BitVec 32 := Scalar.addi v2 c4_i32_180
  let c16_i32_181 : BitVec 32 := 16#32
  let c0_i32_182 : BitVec 32 := 0#32
  let v292 : BitVec 1 := Scalar.cmpi .eq c16_i32_181 c0_i32_182
  let c1_i32_183 : BitVec 32 := 1#32
  let v293 : BitVec 32 := Scalar.select v292 c1_i32_183 c16_i32_181
  let v294 : BitVec 32 := Scalar.remsi v291 v293
  let c0_i32_185 : BitVec 32 := 0#32
  let v296 : BitVec 1 := Scalar.cmpi .slt v294 c0_i32_185
  let c0_i32_186 : BitVec 32 := 0#32
  let v297 : BitVec 1 := Scalar.cmpi .slt v293 c0_i32_186
  let v298 : BitVec 1 := Scalar.xori v296 v297
  let c0_i32_184 : BitVec 32 := 0#32
  let v295 : BitVec 1 := Scalar.cmpi .ne v294 c0_i32_184
  let v299 : BitVec 1 := Scalar.andi v298 v295
  let v300 : BitVec 32 := Scalar.addi v294 v293
  let v301 : BitVec 32 := Scalar.select v299 v300 v294
  let c64_i32_187 : BitVec 32 := 64#32
  let v302 : BitVec 32 := Scalar.muli v301 c64_i32_187
  v302
def k0_dev19 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_180 : BitVec 32 := 4#32
  let v291 : BitVec 32 := Scalar.addi v2 c4_i32_180
  let c16_i32_181 : BitVec 32 := 16#32
  let c0_i32_182 : BitVec 32 := 0#32
  let v292 : BitVec 1 := Scalar.cmpi .eq c16_i32_181 c0_i32_182
  let c1_i32_183 : BitVec 32 := 1#32
  let v293 : BitVec 32 := Scalar.select v292 c1_i32_183 c16_i32_181
  let v294 : BitVec 32 := Scalar.remsi v291 v293
  let c0_i32_185 : BitVec 32 := 0#32
  let v296 : BitVec 1 := Scalar.cmpi .slt v294 c0_i32_185
  let c0_i32_186 : BitVec 32 := 0#32
  let v297 : BitVec 1 := Scalar.cmpi .slt v293 c0_i32_186
  let v298 : BitVec 1 := Scalar.xori v296 v297
  let c0_i32_184 : BitVec 32 := 0#32
  let v295 : BitVec 1 := Scalar.cmpi .ne v294 c0_i32_184
  let v299 : BitVec 1 := Scalar.andi v298 v295
  let v300 : BitVec 32 := Scalar.addi v294 v293
  let v301 : BitVec 32 := Scalar.select v299 v300 v294
  let c1_i32_190 : BitVec 32 := 1#32
  let v312 : BitVec 32 := Scalar.muli v301 c1_i32_190
  let v313 : BitVec 32 := Scalar.addi c0_i32_191 v312
  v313.toNat
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_195 : BitVec 32 := 5#32
  let v321 : BitVec 32 := Scalar.addi v2 c5_i32_195
  let c16_i32_196 : BitVec 32 := 16#32
  let c0_i32_197 : BitVec 32 := 0#32
  let v322 : BitVec 1 := Scalar.cmpi .eq c16_i32_196 c0_i32_197
  let c1_i32_198 : BitVec 32 := 1#32
  let v323 : BitVec 32 := Scalar.select v322 c1_i32_198 c16_i32_196
  let v324 : BitVec 32 := Scalar.remsi v321 v323
  let c0_i32_200 : BitVec 32 := 0#32
  let v326 : BitVec 1 := Scalar.cmpi .slt v324 c0_i32_200
  let c0_i32_201 : BitVec 32 := 0#32
  let v327 : BitVec 1 := Scalar.cmpi .slt v323 c0_i32_201
  let v328 : BitVec 1 := Scalar.xori v326 v327
  let c0_i32_199 : BitVec 32 := 0#32
  let v325 : BitVec 1 := Scalar.cmpi .ne v324 c0_i32_199
  let v329 : BitVec 1 := Scalar.andi v328 v325
  let v330 : BitVec 32 := Scalar.addi v324 v323
  let v331 : BitVec 32 := Scalar.select v329 v330 v324
  let c64_i32_202 : BitVec 32 := 64#32
  let v332 : BitVec 32 := Scalar.muli v331 c64_i32_202
  v332
def k0_dev20 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_195 : BitVec 32 := 5#32
  let v321 : BitVec 32 := Scalar.addi v2 c5_i32_195
  let c16_i32_196 : BitVec 32 := 16#32
  let c0_i32_197 : BitVec 32 := 0#32
  let v322 : BitVec 1 := Scalar.cmpi .eq c16_i32_196 c0_i32_197
  let c1_i32_198 : BitVec 32 := 1#32
  let v323 : BitVec 32 := Scalar.select v322 c1_i32_198 c16_i32_196
  let v324 : BitVec 32 := Scalar.remsi v321 v323
  let c0_i32_200 : BitVec 32 := 0#32
  let v326 : BitVec 1 := Scalar.cmpi .slt v324 c0_i32_200
  let c0_i32_201 : BitVec 32 := 0#32
  let v327 : BitVec 1 := Scalar.cmpi .slt v323 c0_i32_201
  let v328 : BitVec 1 := Scalar.xori v326 v327
  let c0_i32_199 : BitVec 32 := 0#32
  let v325 : BitVec 1 := Scalar.cmpi .ne v324 c0_i32_199
  let v329 : BitVec 1 := Scalar.andi v328 v325
  let v330 : BitVec 32 := Scalar.addi v324 v323
  let v331 : BitVec 32 := Scalar.select v329 v330 v324
  let c1_i32_205 : BitVec 32 := 1#32
  let v342 : BitVec 32 := Scalar.muli v331 c1_i32_205
  let v343 : BitVec 32 := Scalar.addi c0_i32_206 v342
  v343.toNat
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_210 : BitVec 32 := 6#32
  let v351 : BitVec 32 := Scalar.addi v2 c6_i32_210
  let c16_i32_211 : BitVec 32 := 16#32
  let c0_i32_212 : BitVec 32 := 0#32
  let v352 : BitVec 1 := Scalar.cmpi .eq c16_i32_211 c0_i32_212
  let c1_i32_213 : BitVec 32 := 1#32
  let v353 : BitVec 32 := Scalar.select v352 c1_i32_213 c16_i32_211
  let v354 : BitVec 32 := Scalar.remsi v351 v353
  let c0_i32_215 : BitVec 32 := 0#32
  let v356 : BitVec 1 := Scalar.cmpi .slt v354 c0_i32_215
  let c0_i32_216 : BitVec 32 := 0#32
  let v357 : BitVec 1 := Scalar.cmpi .slt v353 c0_i32_216
  let v358 : BitVec 1 := Scalar.xori v356 v357
  let c0_i32_214 : BitVec 32 := 0#32
  let v355 : BitVec 1 := Scalar.cmpi .ne v354 c0_i32_214
  let v359 : BitVec 1 := Scalar.andi v358 v355
  let v360 : BitVec 32 := Scalar.addi v354 v353
  let v361 : BitVec 32 := Scalar.select v359 v360 v354
  let c64_i32_217 : BitVec 32 := 64#32
  let v362 : BitVec 32 := Scalar.muli v361 c64_i32_217
  v362
def k0_dev21 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_210 : BitVec 32 := 6#32
  let v351 : BitVec 32 := Scalar.addi v2 c6_i32_210
  let c16_i32_211 : BitVec 32 := 16#32
  let c0_i32_212 : BitVec 32 := 0#32
  let v352 : BitVec 1 := Scalar.cmpi .eq c16_i32_211 c0_i32_212
  let c1_i32_213 : BitVec 32 := 1#32
  let v353 : BitVec 32 := Scalar.select v352 c1_i32_213 c16_i32_211
  let v354 : BitVec 32 := Scalar.remsi v351 v353
  let c0_i32_215 : BitVec 32 := 0#32
  let v356 : BitVec 1 := Scalar.cmpi .slt v354 c0_i32_215
  let c0_i32_216 : BitVec 32 := 0#32
  let v357 : BitVec 1 := Scalar.cmpi .slt v353 c0_i32_216
  let v358 : BitVec 1 := Scalar.xori v356 v357
  let c0_i32_214 : BitVec 32 := 0#32
  let v355 : BitVec 1 := Scalar.cmpi .ne v354 c0_i32_214
  let v359 : BitVec 1 := Scalar.andi v358 v355
  let v360 : BitVec 32 := Scalar.addi v354 v353
  let v361 : BitVec 32 := Scalar.select v359 v360 v354
  let c1_i32_220 : BitVec 32 := 1#32
  let v372 : BitVec 32 := Scalar.muli v361 c1_i32_220
  let v373 : BitVec 32 := Scalar.addi c0_i32_221 v372
  v373.toNat
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_225 : BitVec 32 := 7#32
  let v381 : BitVec 32 := Scalar.addi v2 c7_i32_225
  let c16_i32_226 : BitVec 32 := 16#32
  let c0_i32_227 : BitVec 32 := 0#32
  let v382 : BitVec 1 := Scalar.cmpi .eq c16_i32_226 c0_i32_227
  let c1_i32_228 : BitVec 32 := 1#32
  let v383 : BitVec 32 := Scalar.select v382 c1_i32_228 c16_i32_226
  let v384 : BitVec 32 := Scalar.remsi v381 v383
  let c0_i32_230 : BitVec 32 := 0#32
  let v386 : BitVec 1 := Scalar.cmpi .slt v384 c0_i32_230
  let c0_i32_231 : BitVec 32 := 0#32
  let v387 : BitVec 1 := Scalar.cmpi .slt v383 c0_i32_231
  let v388 : BitVec 1 := Scalar.xori v386 v387
  let c0_i32_229 : BitVec 32 := 0#32
  let v385 : BitVec 1 := Scalar.cmpi .ne v384 c0_i32_229
  let v389 : BitVec 1 := Scalar.andi v388 v385
  let v390 : BitVec 32 := Scalar.addi v384 v383
  let v391 : BitVec 32 := Scalar.select v389 v390 v384
  let c64_i32_232 : BitVec 32 := 64#32
  let v392 : BitVec 32 := Scalar.muli v391 c64_i32_232
  v392
def k0_dev22 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_225 : BitVec 32 := 7#32
  let v381 : BitVec 32 := Scalar.addi v2 c7_i32_225
  let c16_i32_226 : BitVec 32 := 16#32
  let c0_i32_227 : BitVec 32 := 0#32
  let v382 : BitVec 1 := Scalar.cmpi .eq c16_i32_226 c0_i32_227
  let c1_i32_228 : BitVec 32 := 1#32
  let v383 : BitVec 32 := Scalar.select v382 c1_i32_228 c16_i32_226
  let v384 : BitVec 32 := Scalar.remsi v381 v383
  let c0_i32_230 : BitVec 32 := 0#32
  let v386 : BitVec 1 := Scalar.cmpi .slt v384 c0_i32_230
  let c0_i32_231 : BitVec 32 := 0#32
  let v387 : BitVec 1 := Scalar.cmpi .slt v383 c0_i32_231
  let v388 : BitVec 1 := Scalar.xori v386 v387
  let c0_i32_229 : BitVec 32 := 0#32
  let v385 : BitVec 1 := Scalar.cmpi .ne v384 c0_i32_229
  let v389 : BitVec 1 := Scalar.andi v388 v385
  let v390 : BitVec 32 := Scalar.addi v384 v383
  let v391 : BitVec 32 := Scalar.select v389 v390 v384
  let c1_i32_235 : BitVec 32 := 1#32
  let v402 : BitVec 32 := Scalar.muli v391 c1_i32_235
  let v403 : BitVec 32 := Scalar.addi c0_i32_236 v402
  v403.toNat
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_240 : BitVec 32 := 8#32
  let v411 : BitVec 32 := Scalar.addi v2 c8_i32_240
  let c16_i32_241 : BitVec 32 := 16#32
  let c0_i32_242 : BitVec 32 := 0#32
  let v412 : BitVec 1 := Scalar.cmpi .eq c16_i32_241 c0_i32_242
  let c1_i32_243 : BitVec 32 := 1#32
  let v413 : BitVec 32 := Scalar.select v412 c1_i32_243 c16_i32_241
  let v414 : BitVec 32 := Scalar.remsi v411 v413
  let c0_i32_245 : BitVec 32 := 0#32
  let v416 : BitVec 1 := Scalar.cmpi .slt v414 c0_i32_245
  let c0_i32_246 : BitVec 32 := 0#32
  let v417 : BitVec 1 := Scalar.cmpi .slt v413 c0_i32_246
  let v418 : BitVec 1 := Scalar.xori v416 v417
  let c0_i32_244 : BitVec 32 := 0#32
  let v415 : BitVec 1 := Scalar.cmpi .ne v414 c0_i32_244
  let v419 : BitVec 1 := Scalar.andi v418 v415
  let v420 : BitVec 32 := Scalar.addi v414 v413
  let v421 : BitVec 32 := Scalar.select v419 v420 v414
  let c64_i32_247 : BitVec 32 := 64#32
  let v422 : BitVec 32 := Scalar.muli v421 c64_i32_247
  v422
def k0_dev23 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_240 : BitVec 32 := 8#32
  let v411 : BitVec 32 := Scalar.addi v2 c8_i32_240
  let c16_i32_241 : BitVec 32 := 16#32
  let c0_i32_242 : BitVec 32 := 0#32
  let v412 : BitVec 1 := Scalar.cmpi .eq c16_i32_241 c0_i32_242
  let c1_i32_243 : BitVec 32 := 1#32
  let v413 : BitVec 32 := Scalar.select v412 c1_i32_243 c16_i32_241
  let v414 : BitVec 32 := Scalar.remsi v411 v413
  let c0_i32_245 : BitVec 32 := 0#32
  let v416 : BitVec 1 := Scalar.cmpi .slt v414 c0_i32_245
  let c0_i32_246 : BitVec 32 := 0#32
  let v417 : BitVec 1 := Scalar.cmpi .slt v413 c0_i32_246
  let v418 : BitVec 1 := Scalar.xori v416 v417
  let c0_i32_244 : BitVec 32 := 0#32
  let v415 : BitVec 1 := Scalar.cmpi .ne v414 c0_i32_244
  let v419 : BitVec 1 := Scalar.andi v418 v415
  let v420 : BitVec 32 := Scalar.addi v414 v413
  let v421 : BitVec 32 := Scalar.select v419 v420 v414
  let c1_i32_250 : BitVec 32 := 1#32
  let v432 : BitVec 32 := Scalar.muli v421 c1_i32_250
  let v433 : BitVec 32 := Scalar.addi c0_i32_251 v432
  v433.toNat
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_255 : BitVec 32 := 9#32
  let v441 : BitVec 32 := Scalar.addi v2 c9_i32_255
  let c16_i32_256 : BitVec 32 := 16#32
  let c0_i32_257 : BitVec 32 := 0#32
  let v442 : BitVec 1 := Scalar.cmpi .eq c16_i32_256 c0_i32_257
  let c1_i32_258 : BitVec 32 := 1#32
  let v443 : BitVec 32 := Scalar.select v442 c1_i32_258 c16_i32_256
  let v444 : BitVec 32 := Scalar.remsi v441 v443
  let c0_i32_260 : BitVec 32 := 0#32
  let v446 : BitVec 1 := Scalar.cmpi .slt v444 c0_i32_260
  let c0_i32_261 : BitVec 32 := 0#32
  let v447 : BitVec 1 := Scalar.cmpi .slt v443 c0_i32_261
  let v448 : BitVec 1 := Scalar.xori v446 v447
  let c0_i32_259 : BitVec 32 := 0#32
  let v445 : BitVec 1 := Scalar.cmpi .ne v444 c0_i32_259
  let v449 : BitVec 1 := Scalar.andi v448 v445
  let v450 : BitVec 32 := Scalar.addi v444 v443
  let v451 : BitVec 32 := Scalar.select v449 v450 v444
  let c64_i32_262 : BitVec 32 := 64#32
  let v452 : BitVec 32 := Scalar.muli v451 c64_i32_262
  v452
def k0_dev24 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_255 : BitVec 32 := 9#32
  let v441 : BitVec 32 := Scalar.addi v2 c9_i32_255
  let c16_i32_256 : BitVec 32 := 16#32
  let c0_i32_257 : BitVec 32 := 0#32
  let v442 : BitVec 1 := Scalar.cmpi .eq c16_i32_256 c0_i32_257
  let c1_i32_258 : BitVec 32 := 1#32
  let v443 : BitVec 32 := Scalar.select v442 c1_i32_258 c16_i32_256
  let v444 : BitVec 32 := Scalar.remsi v441 v443
  let c0_i32_260 : BitVec 32 := 0#32
  let v446 : BitVec 1 := Scalar.cmpi .slt v444 c0_i32_260
  let c0_i32_261 : BitVec 32 := 0#32
  let v447 : BitVec 1 := Scalar.cmpi .slt v443 c0_i32_261
  let v448 : BitVec 1 := Scalar.xori v446 v447
  let c0_i32_259 : BitVec 32 := 0#32
  let v445 : BitVec 1 := Scalar.cmpi .ne v444 c0_i32_259
  let v449 : BitVec 1 := Scalar.andi v448 v445
  let v450 : BitVec 32 := Scalar.addi v444 v443
  let v451 : BitVec 32 := Scalar.select v449 v450 v444
  let c1_i32_265 : BitVec 32 := 1#32
  let v462 : BitVec 32 := Scalar.muli v451 c1_i32_265
  let v463 : BitVec 32 := Scalar.addi c0_i32_266 v462
  v463.toNat
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_270 : BitVec 32 := 10#32
  let v471 : BitVec 32 := Scalar.addi v2 c10_i32_270
  let c16_i32_271 : BitVec 32 := 16#32
  let c0_i32_272 : BitVec 32 := 0#32
  let v472 : BitVec 1 := Scalar.cmpi .eq c16_i32_271 c0_i32_272
  let c1_i32_273 : BitVec 32 := 1#32
  let v473 : BitVec 32 := Scalar.select v472 c1_i32_273 c16_i32_271
  let v474 : BitVec 32 := Scalar.remsi v471 v473
  let c0_i32_275 : BitVec 32 := 0#32
  let v476 : BitVec 1 := Scalar.cmpi .slt v474 c0_i32_275
  let c0_i32_276 : BitVec 32 := 0#32
  let v477 : BitVec 1 := Scalar.cmpi .slt v473 c0_i32_276
  let v478 : BitVec 1 := Scalar.xori v476 v477
  let c0_i32_274 : BitVec 32 := 0#32
  let v475 : BitVec 1 := Scalar.cmpi .ne v474 c0_i32_274
  let v479 : BitVec 1 := Scalar.andi v478 v475
  let v480 : BitVec 32 := Scalar.addi v474 v473
  let v481 : BitVec 32 := Scalar.select v479 v480 v474
  let c64_i32_277 : BitVec 32 := 64#32
  let v482 : BitVec 32 := Scalar.muli v481 c64_i32_277
  v482
def k0_dev25 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_270 : BitVec 32 := 10#32
  let v471 : BitVec 32 := Scalar.addi v2 c10_i32_270
  let c16_i32_271 : BitVec 32 := 16#32
  let c0_i32_272 : BitVec 32 := 0#32
  let v472 : BitVec 1 := Scalar.cmpi .eq c16_i32_271 c0_i32_272
  let c1_i32_273 : BitVec 32 := 1#32
  let v473 : BitVec 32 := Scalar.select v472 c1_i32_273 c16_i32_271
  let v474 : BitVec 32 := Scalar.remsi v471 v473
  let c0_i32_275 : BitVec 32 := 0#32
  let v476 : BitVec 1 := Scalar.cmpi .slt v474 c0_i32_275
  let c0_i32_276 : BitVec 32 := 0#32
  let v477 : BitVec 1 := Scalar.cmpi .slt v473 c0_i32_276
  let v478 : BitVec 1 := Scalar.xori v476 v477
  let c0_i32_274 : BitVec 32 := 0#32
  let v475 : BitVec 1 := Scalar.cmpi .ne v474 c0_i32_274
  let v479 : BitVec 1 := Scalar.andi v478 v475
  let v480 : BitVec 32 := Scalar.addi v474 v473
  let v481 : BitVec 32 := Scalar.select v479 v480 v474
  let c1_i32_280 : BitVec 32 := 1#32
  let v492 : BitVec 32 := Scalar.muli v481 c1_i32_280
  let v493 : BitVec 32 := Scalar.addi c0_i32_281 v492
  v493.toNat
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_285 : BitVec 32 := 11#32
  let v501 : BitVec 32 := Scalar.addi v2 c11_i32_285
  let c16_i32_286 : BitVec 32 := 16#32
  let c0_i32_287 : BitVec 32 := 0#32
  let v502 : BitVec 1 := Scalar.cmpi .eq c16_i32_286 c0_i32_287
  let c1_i32_288 : BitVec 32 := 1#32
  let v503 : BitVec 32 := Scalar.select v502 c1_i32_288 c16_i32_286
  let v504 : BitVec 32 := Scalar.remsi v501 v503
  let c0_i32_290 : BitVec 32 := 0#32
  let v506 : BitVec 1 := Scalar.cmpi .slt v504 c0_i32_290
  let c0_i32_291 : BitVec 32 := 0#32
  let v507 : BitVec 1 := Scalar.cmpi .slt v503 c0_i32_291
  let v508 : BitVec 1 := Scalar.xori v506 v507
  let c0_i32_289 : BitVec 32 := 0#32
  let v505 : BitVec 1 := Scalar.cmpi .ne v504 c0_i32_289
  let v509 : BitVec 1 := Scalar.andi v508 v505
  let v510 : BitVec 32 := Scalar.addi v504 v503
  let v511 : BitVec 32 := Scalar.select v509 v510 v504
  let c64_i32_292 : BitVec 32 := 64#32
  let v512 : BitVec 32 := Scalar.muli v511 c64_i32_292
  v512
def k0_dev26 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_285 : BitVec 32 := 11#32
  let v501 : BitVec 32 := Scalar.addi v2 c11_i32_285
  let c16_i32_286 : BitVec 32 := 16#32
  let c0_i32_287 : BitVec 32 := 0#32
  let v502 : BitVec 1 := Scalar.cmpi .eq c16_i32_286 c0_i32_287
  let c1_i32_288 : BitVec 32 := 1#32
  let v503 : BitVec 32 := Scalar.select v502 c1_i32_288 c16_i32_286
  let v504 : BitVec 32 := Scalar.remsi v501 v503
  let c0_i32_290 : BitVec 32 := 0#32
  let v506 : BitVec 1 := Scalar.cmpi .slt v504 c0_i32_290
  let c0_i32_291 : BitVec 32 := 0#32
  let v507 : BitVec 1 := Scalar.cmpi .slt v503 c0_i32_291
  let v508 : BitVec 1 := Scalar.xori v506 v507
  let c0_i32_289 : BitVec 32 := 0#32
  let v505 : BitVec 1 := Scalar.cmpi .ne v504 c0_i32_289
  let v509 : BitVec 1 := Scalar.andi v508 v505
  let v510 : BitVec 32 := Scalar.addi v504 v503
  let v511 : BitVec 32 := Scalar.select v509 v510 v504
  let c1_i32_295 : BitVec 32 := 1#32
  let v522 : BitVec 32 := Scalar.muli v511 c1_i32_295
  let v523 : BitVec 32 := Scalar.addi c0_i32_296 v522
  v523.toNat
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_300 : BitVec 32 := 12#32
  let v531 : BitVec 32 := Scalar.addi v2 c12_i32_300
  let c16_i32_301 : BitVec 32 := 16#32
  let c0_i32_302 : BitVec 32 := 0#32
  let v532 : BitVec 1 := Scalar.cmpi .eq c16_i32_301 c0_i32_302
  let c1_i32_303 : BitVec 32 := 1#32
  let v533 : BitVec 32 := Scalar.select v532 c1_i32_303 c16_i32_301
  let v534 : BitVec 32 := Scalar.remsi v531 v533
  let c0_i32_305 : BitVec 32 := 0#32
  let v536 : BitVec 1 := Scalar.cmpi .slt v534 c0_i32_305
  let c0_i32_306 : BitVec 32 := 0#32
  let v537 : BitVec 1 := Scalar.cmpi .slt v533 c0_i32_306
  let v538 : BitVec 1 := Scalar.xori v536 v537
  let c0_i32_304 : BitVec 32 := 0#32
  let v535 : BitVec 1 := Scalar.cmpi .ne v534 c0_i32_304
  let v539 : BitVec 1 := Scalar.andi v538 v535
  let v540 : BitVec 32 := Scalar.addi v534 v533
  let v541 : BitVec 32 := Scalar.select v539 v540 v534
  let c64_i32_307 : BitVec 32 := 64#32
  let v542 : BitVec 32 := Scalar.muli v541 c64_i32_307
  v542
def k0_dev27 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_300 : BitVec 32 := 12#32
  let v531 : BitVec 32 := Scalar.addi v2 c12_i32_300
  let c16_i32_301 : BitVec 32 := 16#32
  let c0_i32_302 : BitVec 32 := 0#32
  let v532 : BitVec 1 := Scalar.cmpi .eq c16_i32_301 c0_i32_302
  let c1_i32_303 : BitVec 32 := 1#32
  let v533 : BitVec 32 := Scalar.select v532 c1_i32_303 c16_i32_301
  let v534 : BitVec 32 := Scalar.remsi v531 v533
  let c0_i32_305 : BitVec 32 := 0#32
  let v536 : BitVec 1 := Scalar.cmpi .slt v534 c0_i32_305
  let c0_i32_306 : BitVec 32 := 0#32
  let v537 : BitVec 1 := Scalar.cmpi .slt v533 c0_i32_306
  let v538 : BitVec 1 := Scalar.xori v536 v537
  let c0_i32_304 : BitVec 32 := 0#32
  let v535 : BitVec 1 := Scalar.cmpi .ne v534 c0_i32_304
  let v539 : BitVec 1 := Scalar.andi v538 v535
  let v540 : BitVec 32 := Scalar.addi v534 v533
  let v541 : BitVec 32 := Scalar.select v539 v540 v534
  let c1_i32_310 : BitVec 32 := 1#32
  let v552 : BitVec 32 := Scalar.muli v541 c1_i32_310
  let v553 : BitVec 32 := Scalar.addi c0_i32_311 v552
  v553.toNat
def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_315 : BitVec 32 := 13#32
  let v561 : BitVec 32 := Scalar.addi v2 c13_i32_315
  let c16_i32_316 : BitVec 32 := 16#32
  let c0_i32_317 : BitVec 32 := 0#32
  let v562 : BitVec 1 := Scalar.cmpi .eq c16_i32_316 c0_i32_317
  let c1_i32_318 : BitVec 32 := 1#32
  let v563 : BitVec 32 := Scalar.select v562 c1_i32_318 c16_i32_316
  let v564 : BitVec 32 := Scalar.remsi v561 v563
  let c0_i32_320 : BitVec 32 := 0#32
  let v566 : BitVec 1 := Scalar.cmpi .slt v564 c0_i32_320
  let c0_i32_321 : BitVec 32 := 0#32
  let v567 : BitVec 1 := Scalar.cmpi .slt v563 c0_i32_321
  let v568 : BitVec 1 := Scalar.xori v566 v567
  let c0_i32_319 : BitVec 32 := 0#32
  let v565 : BitVec 1 := Scalar.cmpi .ne v564 c0_i32_319
  let v569 : BitVec 1 := Scalar.andi v568 v565
  let v570 : BitVec 32 := Scalar.addi v564 v563
  let v571 : BitVec 32 := Scalar.select v569 v570 v564
  let c64_i32_322 : BitVec 32 := 64#32
  let v572 : BitVec 32 := Scalar.muli v571 c64_i32_322
  v572
def k0_dev28 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_315 : BitVec 32 := 13#32
  let v561 : BitVec 32 := Scalar.addi v2 c13_i32_315
  let c16_i32_316 : BitVec 32 := 16#32
  let c0_i32_317 : BitVec 32 := 0#32
  let v562 : BitVec 1 := Scalar.cmpi .eq c16_i32_316 c0_i32_317
  let c1_i32_318 : BitVec 32 := 1#32
  let v563 : BitVec 32 := Scalar.select v562 c1_i32_318 c16_i32_316
  let v564 : BitVec 32 := Scalar.remsi v561 v563
  let c0_i32_320 : BitVec 32 := 0#32
  let v566 : BitVec 1 := Scalar.cmpi .slt v564 c0_i32_320
  let c0_i32_321 : BitVec 32 := 0#32
  let v567 : BitVec 1 := Scalar.cmpi .slt v563 c0_i32_321
  let v568 : BitVec 1 := Scalar.xori v566 v567
  let c0_i32_319 : BitVec 32 := 0#32
  let v565 : BitVec 1 := Scalar.cmpi .ne v564 c0_i32_319
  let v569 : BitVec 1 := Scalar.andi v568 v565
  let v570 : BitVec 32 := Scalar.addi v564 v563
  let v571 : BitVec 32 := Scalar.select v569 v570 v564
  let c1_i32_325 : BitVec 32 := 1#32
  let v582 : BitVec 32 := Scalar.muli v571 c1_i32_325
  let v583 : BitVec 32 := Scalar.addi c0_i32_326 v582
  v583.toNat
def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_330 : BitVec 32 := 14#32
  let v591 : BitVec 32 := Scalar.addi v2 c14_i32_330
  let c16_i32_331 : BitVec 32 := 16#32
  let c0_i32_332 : BitVec 32 := 0#32
  let v592 : BitVec 1 := Scalar.cmpi .eq c16_i32_331 c0_i32_332
  let c1_i32_333 : BitVec 32 := 1#32
  let v593 : BitVec 32 := Scalar.select v592 c1_i32_333 c16_i32_331
  let v594 : BitVec 32 := Scalar.remsi v591 v593
  let c0_i32_335 : BitVec 32 := 0#32
  let v596 : BitVec 1 := Scalar.cmpi .slt v594 c0_i32_335
  let c0_i32_336 : BitVec 32 := 0#32
  let v597 : BitVec 1 := Scalar.cmpi .slt v593 c0_i32_336
  let v598 : BitVec 1 := Scalar.xori v596 v597
  let c0_i32_334 : BitVec 32 := 0#32
  let v595 : BitVec 1 := Scalar.cmpi .ne v594 c0_i32_334
  let v599 : BitVec 1 := Scalar.andi v598 v595
  let v600 : BitVec 32 := Scalar.addi v594 v593
  let v601 : BitVec 32 := Scalar.select v599 v600 v594
  let c64_i32_337 : BitVec 32 := 64#32
  let v602 : BitVec 32 := Scalar.muli v601 c64_i32_337
  v602
def k0_dev29 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_330 : BitVec 32 := 14#32
  let v591 : BitVec 32 := Scalar.addi v2 c14_i32_330
  let c16_i32_331 : BitVec 32 := 16#32
  let c0_i32_332 : BitVec 32 := 0#32
  let v592 : BitVec 1 := Scalar.cmpi .eq c16_i32_331 c0_i32_332
  let c1_i32_333 : BitVec 32 := 1#32
  let v593 : BitVec 32 := Scalar.select v592 c1_i32_333 c16_i32_331
  let v594 : BitVec 32 := Scalar.remsi v591 v593
  let c0_i32_335 : BitVec 32 := 0#32
  let v596 : BitVec 1 := Scalar.cmpi .slt v594 c0_i32_335
  let c0_i32_336 : BitVec 32 := 0#32
  let v597 : BitVec 1 := Scalar.cmpi .slt v593 c0_i32_336
  let v598 : BitVec 1 := Scalar.xori v596 v597
  let c0_i32_334 : BitVec 32 := 0#32
  let v595 : BitVec 1 := Scalar.cmpi .ne v594 c0_i32_334
  let v599 : BitVec 1 := Scalar.andi v598 v595
  let v600 : BitVec 32 := Scalar.addi v594 v593
  let v601 : BitVec 32 := Scalar.select v599 v600 v594
  let c1_i32_340 : BitVec 32 := 1#32
  let v612 : BitVec 32 := Scalar.muli v601 c1_i32_340
  let v613 : BitVec 32 := Scalar.addi c0_i32_341 v612
  v613.toNat
def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_345 : BitVec 32 := 15#32
  let v621 : BitVec 32 := Scalar.addi v2 c15_i32_345
  let c16_i32_346 : BitVec 32 := 16#32
  let c0_i32_347 : BitVec 32 := 0#32
  let v622 : BitVec 1 := Scalar.cmpi .eq c16_i32_346 c0_i32_347
  let c1_i32_348 : BitVec 32 := 1#32
  let v623 : BitVec 32 := Scalar.select v622 c1_i32_348 c16_i32_346
  let v624 : BitVec 32 := Scalar.remsi v621 v623
  let c0_i32_350 : BitVec 32 := 0#32
  let v626 : BitVec 1 := Scalar.cmpi .slt v624 c0_i32_350
  let c0_i32_351 : BitVec 32 := 0#32
  let v627 : BitVec 1 := Scalar.cmpi .slt v623 c0_i32_351
  let v628 : BitVec 1 := Scalar.xori v626 v627
  let c0_i32_349 : BitVec 32 := 0#32
  let v625 : BitVec 1 := Scalar.cmpi .ne v624 c0_i32_349
  let v629 : BitVec 1 := Scalar.andi v628 v625
  let v630 : BitVec 32 := Scalar.addi v624 v623
  let v631 : BitVec 32 := Scalar.select v629 v630 v624
  let c64_i32_352 : BitVec 32 := 64#32
  let v632 : BitVec 32 := Scalar.muli v631 c64_i32_352
  v632
def k0_dev30 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_345 : BitVec 32 := 15#32
  let v621 : BitVec 32 := Scalar.addi v2 c15_i32_345
  let c16_i32_346 : BitVec 32 := 16#32
  let c0_i32_347 : BitVec 32 := 0#32
  let v622 : BitVec 1 := Scalar.cmpi .eq c16_i32_346 c0_i32_347
  let c1_i32_348 : BitVec 32 := 1#32
  let v623 : BitVec 32 := Scalar.select v622 c1_i32_348 c16_i32_346
  let v624 : BitVec 32 := Scalar.remsi v621 v623
  let c0_i32_350 : BitVec 32 := 0#32
  let v626 : BitVec 1 := Scalar.cmpi .slt v624 c0_i32_350
  let c0_i32_351 : BitVec 32 := 0#32
  let v627 : BitVec 1 := Scalar.cmpi .slt v623 c0_i32_351
  let v628 : BitVec 1 := Scalar.xori v626 v627
  let c0_i32_349 : BitVec 32 := 0#32
  let v625 : BitVec 1 := Scalar.cmpi .ne v624 c0_i32_349
  let v629 : BitVec 1 := Scalar.andi v628 v625
  let v630 : BitVec 32 := Scalar.addi v624 v623
  let v631 : BitVec 32 := Scalar.select v629 v630 v624
  let c1_i32_355 : BitVec 32 := 1#32
  let v642 : BitVec 32 := Scalar.muli v631 c1_i32_355
  let v643 : BitVec 32 := Scalar.addi c0_i32_356 v642
  v643.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v3 : BitVec 32 := Scalar.muli v2 c64_i32
  let v4 : BitVec 32 := v3
  let v651 : Index := Scalar.indexCast v4
  let c0_360 : Index := 0#32
  ![v651.toNat, 0]
def k0_off7 (d0 : Dev nD) (c1_i32_363 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v657 : BitVec 32 := Scalar.subi v2 c1_i32_363
  let c16_i32_364 : BitVec 32 := 16#32
  let c0_i32_365 : BitVec 32 := 0#32
  let v658 : BitVec 1 := Scalar.cmpi .eq c16_i32_364 c0_i32_365
  let c1_i32_366 : BitVec 32 := 1#32
  let v659 : BitVec 32 := Scalar.select v658 c1_i32_366 c16_i32_364
  let v660 : BitVec 32 := Scalar.remsi v657 v659
  let c0_i32_368 : BitVec 32 := 0#32
  let v662 : BitVec 1 := Scalar.cmpi .slt v660 c0_i32_368
  let c0_i32_369 : BitVec 32 := 0#32
  let v663 : BitVec 1 := Scalar.cmpi .slt v659 c0_i32_369
  let v664 : BitVec 1 := Scalar.xori v662 v663
  let c0_i32_367 : BitVec 32 := 0#32
  let v661 : BitVec 1 := Scalar.cmpi .ne v660 c0_i32_367
  let v665 : BitVec 1 := Scalar.andi v664 v661
  let v666 : BitVec 32 := Scalar.addi v660 v659
  let v667 : BitVec 32 := Scalar.select v665 v666 v660
  ![v667.toNat]
def k0_off8 (d0 : Dev nD) (c1_i32_363 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v657 : BitVec 32 := Scalar.subi v2 c1_i32_363
  let c16_i32_364 : BitVec 32 := 16#32
  let c0_i32_365 : BitVec 32 := 0#32
  let v658 : BitVec 1 := Scalar.cmpi .eq c16_i32_364 c0_i32_365
  let c1_i32_366 : BitVec 32 := 1#32
  let v659 : BitVec 32 := Scalar.select v658 c1_i32_366 c16_i32_364
  let v660 : BitVec 32 := Scalar.remsi v657 v659
  let c0_i32_368 : BitVec 32 := 0#32
  let v662 : BitVec 1 := Scalar.cmpi .slt v660 c0_i32_368
  let c0_i32_369 : BitVec 32 := 0#32
  let v663 : BitVec 1 := Scalar.cmpi .slt v659 c0_i32_369
  let v664 : BitVec 1 := Scalar.xori v662 v663
  let c0_i32_367 : BitVec 32 := 0#32
  let v661 : BitVec 1 := Scalar.cmpi .ne v660 c0_i32_367
  let v665 : BitVec 1 := Scalar.andi v664 v661
  let v666 : BitVec 32 := Scalar.addi v660 v659
  let v667 : BitVec 32 := Scalar.select v665 v666 v660
  let c0_i32_372 : BitVec 32 := 0#32
  let c0_i32_373 : BitVec 32 := 0#32
  ![v667.toNat, 0, 0]
def k0_off9 (d0 : Dev nD) (c1_i32_363 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v657 : BitVec 32 := Scalar.subi v2 c1_i32_363
  let c16_i32_364 : BitVec 32 := 16#32
  let c0_i32_365 : BitVec 32 := 0#32
  let v658 : BitVec 1 := Scalar.cmpi .eq c16_i32_364 c0_i32_365
  let c1_i32_366 : BitVec 32 := 1#32
  let v659 : BitVec 32 := Scalar.select v658 c1_i32_366 c16_i32_364
  let v660 : BitVec 32 := Scalar.remsi v657 v659
  let c0_i32_368 : BitVec 32 := 0#32
  let v662 : BitVec 1 := Scalar.cmpi .slt v660 c0_i32_368
  let c0_i32_369 : BitVec 32 := 0#32
  let v663 : BitVec 1 := Scalar.cmpi .slt v659 c0_i32_369
  let v664 : BitVec 1 := Scalar.xori v662 v663
  let c0_i32_367 : BitVec 32 := 0#32
  let v661 : BitVec 1 := Scalar.cmpi .ne v660 c0_i32_367
  let v665 : BitVec 1 := Scalar.andi v664 v661
  let v666 : BitVec 32 := Scalar.addi v660 v659
  let v667 : BitVec 32 := Scalar.select v665 v666 v660
  let v677 : Index := Scalar.indexCast v667
  let c0_378 : Index := 0#32
  let c0_379 : Index := 0#32
  ![v677.toNat, 0, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v3 : BitVec 32 := Scalar.muli v2 c64_i32
  let v4 : BitVec 32 := v3
  let c0_i32_660 : BitVec 32 := 0#32
  ![v4.toNat, 0]
def k0_dev31 (d0 : Dev nD) : Nat :=
  let c0_i32_659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_651 : BitVec 32 := 1#32
  let v1089 : BitVec 32 := Scalar.addi v2 c1_i32_651
  let c16_i32_652 : BitVec 32 := 16#32
  let c0_i32_653 : BitVec 32 := 0#32
  let v1090 : BitVec 1 := Scalar.cmpi .eq c16_i32_652 c0_i32_653
  let c1_i32_654 : BitVec 32 := 1#32
  let v1091 : BitVec 32 := Scalar.select v1090 c1_i32_654 c16_i32_652
  let v1092 : BitVec 32 := Scalar.remsi v1089 v1091
  let c0_i32_656 : BitVec 32 := 0#32
  let v1094 : BitVec 1 := Scalar.cmpi .slt v1092 c0_i32_656
  let c0_i32_657 : BitVec 32 := 0#32
  let v1095 : BitVec 1 := Scalar.cmpi .slt v1091 c0_i32_657
  let v1096 : BitVec 1 := Scalar.xori v1094 v1095
  let c0_i32_655 : BitVec 32 := 0#32
  let v1093 : BitVec 1 := Scalar.cmpi .ne v1092 c0_i32_655
  let v1097 : BitVec 1 := Scalar.andi v1096 v1093
  let v1098 : BitVec 32 := Scalar.addi v1092 v1091
  let v1099 : BitVec 32 := Scalar.select v1097 v1098 v1092
  let c1_i32_658 : BitVec 32 := 1#32
  let v1100 : BitVec 32 := Scalar.muli v1099 c1_i32_658
  let v1101 : BitVec 32 := Scalar.addi c0_i32_659 v1100
  v1101.toNat
def k0_dev32 (d0 : Dev nD) : Nat :=
  let c0_i32_670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_662 : BitVec 32 := 2#32
  let v1108 : BitVec 32 := Scalar.addi v2 c2_i32_662
  let c16_i32_663 : BitVec 32 := 16#32
  let c0_i32_664 : BitVec 32 := 0#32
  let v1109 : BitVec 1 := Scalar.cmpi .eq c16_i32_663 c0_i32_664
  let c1_i32_665 : BitVec 32 := 1#32
  let v1110 : BitVec 32 := Scalar.select v1109 c1_i32_665 c16_i32_663
  let v1111 : BitVec 32 := Scalar.remsi v1108 v1110
  let c0_i32_667 : BitVec 32 := 0#32
  let v1113 : BitVec 1 := Scalar.cmpi .slt v1111 c0_i32_667
  let c0_i32_668 : BitVec 32 := 0#32
  let v1114 : BitVec 1 := Scalar.cmpi .slt v1110 c0_i32_668
  let v1115 : BitVec 1 := Scalar.xori v1113 v1114
  let c0_i32_666 : BitVec 32 := 0#32
  let v1112 : BitVec 1 := Scalar.cmpi .ne v1111 c0_i32_666
  let v1116 : BitVec 1 := Scalar.andi v1115 v1112
  let v1117 : BitVec 32 := Scalar.addi v1111 v1110
  let v1118 : BitVec 32 := Scalar.select v1116 v1117 v1111
  let c1_i32_669 : BitVec 32 := 1#32
  let v1119 : BitVec 32 := Scalar.muli v1118 c1_i32_669
  let v1120 : BitVec 32 := Scalar.addi c0_i32_670 v1119
  v1120.toNat
def k0_dev33 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_673 : BitVec 32 := 3#32
  let v1127 : BitVec 32 := Scalar.addi v2 c3_i32_673
  let c16_i32_674 : BitVec 32 := 16#32
  let c0_i32_675 : BitVec 32 := 0#32
  let v1128 : BitVec 1 := Scalar.cmpi .eq c16_i32_674 c0_i32_675
  let c1_i32_676 : BitVec 32 := 1#32
  let v1129 : BitVec 32 := Scalar.select v1128 c1_i32_676 c16_i32_674
  let v1130 : BitVec 32 := Scalar.remsi v1127 v1129
  let c0_i32_678 : BitVec 32 := 0#32
  let v1132 : BitVec 1 := Scalar.cmpi .slt v1130 c0_i32_678
  let c0_i32_679 : BitVec 32 := 0#32
  let v1133 : BitVec 1 := Scalar.cmpi .slt v1129 c0_i32_679
  let v1134 : BitVec 1 := Scalar.xori v1132 v1133
  let c0_i32_677 : BitVec 32 := 0#32
  let v1131 : BitVec 1 := Scalar.cmpi .ne v1130 c0_i32_677
  let v1135 : BitVec 1 := Scalar.andi v1134 v1131
  let v1136 : BitVec 32 := Scalar.addi v1130 v1129
  let v1137 : BitVec 32 := Scalar.select v1135 v1136 v1130
  let c1_i32_680 : BitVec 32 := 1#32
  let v1138 : BitVec 32 := Scalar.muli v1137 c1_i32_680
  let v1139 : BitVec 32 := Scalar.addi c0_i32_681 v1138
  v1139.toNat
def k0_dev34 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_684 : BitVec 32 := 4#32
  let v1146 : BitVec 32 := Scalar.addi v2 c4_i32_684
  let c16_i32_685 : BitVec 32 := 16#32
  let c0_i32_686 : BitVec 32 := 0#32
  let v1147 : BitVec 1 := Scalar.cmpi .eq c16_i32_685 c0_i32_686
  let c1_i32_687 : BitVec 32 := 1#32
  let v1148 : BitVec 32 := Scalar.select v1147 c1_i32_687 c16_i32_685
  let v1149 : BitVec 32 := Scalar.remsi v1146 v1148
  let c0_i32_689 : BitVec 32 := 0#32
  let v1151 : BitVec 1 := Scalar.cmpi .slt v1149 c0_i32_689
  let c0_i32_690 : BitVec 32 := 0#32
  let v1152 : BitVec 1 := Scalar.cmpi .slt v1148 c0_i32_690
  let v1153 : BitVec 1 := Scalar.xori v1151 v1152
  let c0_i32_688 : BitVec 32 := 0#32
  let v1150 : BitVec 1 := Scalar.cmpi .ne v1149 c0_i32_688
  let v1154 : BitVec 1 := Scalar.andi v1153 v1150
  let v1155 : BitVec 32 := Scalar.addi v1149 v1148
  let v1156 : BitVec 32 := Scalar.select v1154 v1155 v1149
  let c1_i32_691 : BitVec 32 := 1#32
  let v1157 : BitVec 32 := Scalar.muli v1156 c1_i32_691
  let v1158 : BitVec 32 := Scalar.addi c0_i32_692 v1157
  v1158.toNat
def k0_dev35 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_695 : BitVec 32 := 5#32
  let v1165 : BitVec 32 := Scalar.addi v2 c5_i32_695
  let c16_i32_696 : BitVec 32 := 16#32
  let c0_i32_697 : BitVec 32 := 0#32
  let v1166 : BitVec 1 := Scalar.cmpi .eq c16_i32_696 c0_i32_697
  let c1_i32_698 : BitVec 32 := 1#32
  let v1167 : BitVec 32 := Scalar.select v1166 c1_i32_698 c16_i32_696
  let v1168 : BitVec 32 := Scalar.remsi v1165 v1167
  let c0_i32_700 : BitVec 32 := 0#32
  let v1170 : BitVec 1 := Scalar.cmpi .slt v1168 c0_i32_700
  let c0_i32_701 : BitVec 32 := 0#32
  let v1171 : BitVec 1 := Scalar.cmpi .slt v1167 c0_i32_701
  let v1172 : BitVec 1 := Scalar.xori v1170 v1171
  let c0_i32_699 : BitVec 32 := 0#32
  let v1169 : BitVec 1 := Scalar.cmpi .ne v1168 c0_i32_699
  let v1173 : BitVec 1 := Scalar.andi v1172 v1169
  let v1174 : BitVec 32 := Scalar.addi v1168 v1167
  let v1175 : BitVec 32 := Scalar.select v1173 v1174 v1168
  let c1_i32_702 : BitVec 32 := 1#32
  let v1176 : BitVec 32 := Scalar.muli v1175 c1_i32_702
  let v1177 : BitVec 32 := Scalar.addi c0_i32_703 v1176
  v1177.toNat
def k0_dev36 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_706 : BitVec 32 := 6#32
  let v1184 : BitVec 32 := Scalar.addi v2 c6_i32_706
  let c16_i32_707 : BitVec 32 := 16#32
  let c0_i32_708 : BitVec 32 := 0#32
  let v1185 : BitVec 1 := Scalar.cmpi .eq c16_i32_707 c0_i32_708
  let c1_i32_709 : BitVec 32 := 1#32
  let v1186 : BitVec 32 := Scalar.select v1185 c1_i32_709 c16_i32_707
  let v1187 : BitVec 32 := Scalar.remsi v1184 v1186
  let c0_i32_711 : BitVec 32 := 0#32
  let v1189 : BitVec 1 := Scalar.cmpi .slt v1187 c0_i32_711
  let c0_i32_712 : BitVec 32 := 0#32
  let v1190 : BitVec 1 := Scalar.cmpi .slt v1186 c0_i32_712
  let v1191 : BitVec 1 := Scalar.xori v1189 v1190
  let c0_i32_710 : BitVec 32 := 0#32
  let v1188 : BitVec 1 := Scalar.cmpi .ne v1187 c0_i32_710
  let v1192 : BitVec 1 := Scalar.andi v1191 v1188
  let v1193 : BitVec 32 := Scalar.addi v1187 v1186
  let v1194 : BitVec 32 := Scalar.select v1192 v1193 v1187
  let c1_i32_713 : BitVec 32 := 1#32
  let v1195 : BitVec 32 := Scalar.muli v1194 c1_i32_713
  let v1196 : BitVec 32 := Scalar.addi c0_i32_714 v1195
  v1196.toNat
def k0_dev37 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_717 : BitVec 32 := 7#32
  let v1203 : BitVec 32 := Scalar.addi v2 c7_i32_717
  let c16_i32_718 : BitVec 32 := 16#32
  let c0_i32_719 : BitVec 32 := 0#32
  let v1204 : BitVec 1 := Scalar.cmpi .eq c16_i32_718 c0_i32_719
  let c1_i32_720 : BitVec 32 := 1#32
  let v1205 : BitVec 32 := Scalar.select v1204 c1_i32_720 c16_i32_718
  let v1206 : BitVec 32 := Scalar.remsi v1203 v1205
  let c0_i32_722 : BitVec 32 := 0#32
  let v1208 : BitVec 1 := Scalar.cmpi .slt v1206 c0_i32_722
  let c0_i32_723 : BitVec 32 := 0#32
  let v1209 : BitVec 1 := Scalar.cmpi .slt v1205 c0_i32_723
  let v1210 : BitVec 1 := Scalar.xori v1208 v1209
  let c0_i32_721 : BitVec 32 := 0#32
  let v1207 : BitVec 1 := Scalar.cmpi .ne v1206 c0_i32_721
  let v1211 : BitVec 1 := Scalar.andi v1210 v1207
  let v1212 : BitVec 32 := Scalar.addi v1206 v1205
  let v1213 : BitVec 32 := Scalar.select v1211 v1212 v1206
  let c1_i32_724 : BitVec 32 := 1#32
  let v1214 : BitVec 32 := Scalar.muli v1213 c1_i32_724
  let v1215 : BitVec 32 := Scalar.addi c0_i32_725 v1214
  v1215.toNat
def k0_dev38 (d0 : Dev nD) : Nat :=
  let c0_i32_736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_728 : BitVec 32 := 8#32
  let v1222 : BitVec 32 := Scalar.addi v2 c8_i32_728
  let c16_i32_729 : BitVec 32 := 16#32
  let c0_i32_730 : BitVec 32 := 0#32
  let v1223 : BitVec 1 := Scalar.cmpi .eq c16_i32_729 c0_i32_730
  let c1_i32_731 : BitVec 32 := 1#32
  let v1224 : BitVec 32 := Scalar.select v1223 c1_i32_731 c16_i32_729
  let v1225 : BitVec 32 := Scalar.remsi v1222 v1224
  let c0_i32_733 : BitVec 32 := 0#32
  let v1227 : BitVec 1 := Scalar.cmpi .slt v1225 c0_i32_733
  let c0_i32_734 : BitVec 32 := 0#32
  let v1228 : BitVec 1 := Scalar.cmpi .slt v1224 c0_i32_734
  let v1229 : BitVec 1 := Scalar.xori v1227 v1228
  let c0_i32_732 : BitVec 32 := 0#32
  let v1226 : BitVec 1 := Scalar.cmpi .ne v1225 c0_i32_732
  let v1230 : BitVec 1 := Scalar.andi v1229 v1226
  let v1231 : BitVec 32 := Scalar.addi v1225 v1224
  let v1232 : BitVec 32 := Scalar.select v1230 v1231 v1225
  let c1_i32_735 : BitVec 32 := 1#32
  let v1233 : BitVec 32 := Scalar.muli v1232 c1_i32_735
  let v1234 : BitVec 32 := Scalar.addi c0_i32_736 v1233
  v1234.toNat
def k0_dev39 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_739 : BitVec 32 := 9#32
  let v1241 : BitVec 32 := Scalar.addi v2 c9_i32_739
  let c16_i32_740 : BitVec 32 := 16#32
  let c0_i32_741 : BitVec 32 := 0#32
  let v1242 : BitVec 1 := Scalar.cmpi .eq c16_i32_740 c0_i32_741
  let c1_i32_742 : BitVec 32 := 1#32
  let v1243 : BitVec 32 := Scalar.select v1242 c1_i32_742 c16_i32_740
  let v1244 : BitVec 32 := Scalar.remsi v1241 v1243
  let c0_i32_744 : BitVec 32 := 0#32
  let v1246 : BitVec 1 := Scalar.cmpi .slt v1244 c0_i32_744
  let c0_i32_745 : BitVec 32 := 0#32
  let v1247 : BitVec 1 := Scalar.cmpi .slt v1243 c0_i32_745
  let v1248 : BitVec 1 := Scalar.xori v1246 v1247
  let c0_i32_743 : BitVec 32 := 0#32
  let v1245 : BitVec 1 := Scalar.cmpi .ne v1244 c0_i32_743
  let v1249 : BitVec 1 := Scalar.andi v1248 v1245
  let v1250 : BitVec 32 := Scalar.addi v1244 v1243
  let v1251 : BitVec 32 := Scalar.select v1249 v1250 v1244
  let c1_i32_746 : BitVec 32 := 1#32
  let v1252 : BitVec 32 := Scalar.muli v1251 c1_i32_746
  let v1253 : BitVec 32 := Scalar.addi c0_i32_747 v1252
  v1253.toNat
def k0_dev40 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_750 : BitVec 32 := 10#32
  let v1260 : BitVec 32 := Scalar.addi v2 c10_i32_750
  let c16_i32_751 : BitVec 32 := 16#32
  let c0_i32_752 : BitVec 32 := 0#32
  let v1261 : BitVec 1 := Scalar.cmpi .eq c16_i32_751 c0_i32_752
  let c1_i32_753 : BitVec 32 := 1#32
  let v1262 : BitVec 32 := Scalar.select v1261 c1_i32_753 c16_i32_751
  let v1263 : BitVec 32 := Scalar.remsi v1260 v1262
  let c0_i32_755 : BitVec 32 := 0#32
  let v1265 : BitVec 1 := Scalar.cmpi .slt v1263 c0_i32_755
  let c0_i32_756 : BitVec 32 := 0#32
  let v1266 : BitVec 1 := Scalar.cmpi .slt v1262 c0_i32_756
  let v1267 : BitVec 1 := Scalar.xori v1265 v1266
  let c0_i32_754 : BitVec 32 := 0#32
  let v1264 : BitVec 1 := Scalar.cmpi .ne v1263 c0_i32_754
  let v1268 : BitVec 1 := Scalar.andi v1267 v1264
  let v1269 : BitVec 32 := Scalar.addi v1263 v1262
  let v1270 : BitVec 32 := Scalar.select v1268 v1269 v1263
  let c1_i32_757 : BitVec 32 := 1#32
  let v1271 : BitVec 32 := Scalar.muli v1270 c1_i32_757
  let v1272 : BitVec 32 := Scalar.addi c0_i32_758 v1271
  v1272.toNat
def k0_dev41 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_761 : BitVec 32 := 11#32
  let v1279 : BitVec 32 := Scalar.addi v2 c11_i32_761
  let c16_i32_762 : BitVec 32 := 16#32
  let c0_i32_763 : BitVec 32 := 0#32
  let v1280 : BitVec 1 := Scalar.cmpi .eq c16_i32_762 c0_i32_763
  let c1_i32_764 : BitVec 32 := 1#32
  let v1281 : BitVec 32 := Scalar.select v1280 c1_i32_764 c16_i32_762
  let v1282 : BitVec 32 := Scalar.remsi v1279 v1281
  let c0_i32_766 : BitVec 32 := 0#32
  let v1284 : BitVec 1 := Scalar.cmpi .slt v1282 c0_i32_766
  let c0_i32_767 : BitVec 32 := 0#32
  let v1285 : BitVec 1 := Scalar.cmpi .slt v1281 c0_i32_767
  let v1286 : BitVec 1 := Scalar.xori v1284 v1285
  let c0_i32_765 : BitVec 32 := 0#32
  let v1283 : BitVec 1 := Scalar.cmpi .ne v1282 c0_i32_765
  let v1287 : BitVec 1 := Scalar.andi v1286 v1283
  let v1288 : BitVec 32 := Scalar.addi v1282 v1281
  let v1289 : BitVec 32 := Scalar.select v1287 v1288 v1282
  let c1_i32_768 : BitVec 32 := 1#32
  let v1290 : BitVec 32 := Scalar.muli v1289 c1_i32_768
  let v1291 : BitVec 32 := Scalar.addi c0_i32_769 v1290
  v1291.toNat
def k0_dev42 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_772 : BitVec 32 := 12#32
  let v1298 : BitVec 32 := Scalar.addi v2 c12_i32_772
  let c16_i32_773 : BitVec 32 := 16#32
  let c0_i32_774 : BitVec 32 := 0#32
  let v1299 : BitVec 1 := Scalar.cmpi .eq c16_i32_773 c0_i32_774
  let c1_i32_775 : BitVec 32 := 1#32
  let v1300 : BitVec 32 := Scalar.select v1299 c1_i32_775 c16_i32_773
  let v1301 : BitVec 32 := Scalar.remsi v1298 v1300
  let c0_i32_777 : BitVec 32 := 0#32
  let v1303 : BitVec 1 := Scalar.cmpi .slt v1301 c0_i32_777
  let c0_i32_778 : BitVec 32 := 0#32
  let v1304 : BitVec 1 := Scalar.cmpi .slt v1300 c0_i32_778
  let v1305 : BitVec 1 := Scalar.xori v1303 v1304
  let c0_i32_776 : BitVec 32 := 0#32
  let v1302 : BitVec 1 := Scalar.cmpi .ne v1301 c0_i32_776
  let v1306 : BitVec 1 := Scalar.andi v1305 v1302
  let v1307 : BitVec 32 := Scalar.addi v1301 v1300
  let v1308 : BitVec 32 := Scalar.select v1306 v1307 v1301
  let c1_i32_779 : BitVec 32 := 1#32
  let v1309 : BitVec 32 := Scalar.muli v1308 c1_i32_779
  let v1310 : BitVec 32 := Scalar.addi c0_i32_780 v1309
  v1310.toNat
def k0_dev43 (d0 : Dev nD) : Nat :=
  let c0_i32_791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_783 : BitVec 32 := 13#32
  let v1317 : BitVec 32 := Scalar.addi v2 c13_i32_783
  let c16_i32_784 : BitVec 32 := 16#32
  let c0_i32_785 : BitVec 32 := 0#32
  let v1318 : BitVec 1 := Scalar.cmpi .eq c16_i32_784 c0_i32_785
  let c1_i32_786 : BitVec 32 := 1#32
  let v1319 : BitVec 32 := Scalar.select v1318 c1_i32_786 c16_i32_784
  let v1320 : BitVec 32 := Scalar.remsi v1317 v1319
  let c0_i32_788 : BitVec 32 := 0#32
  let v1322 : BitVec 1 := Scalar.cmpi .slt v1320 c0_i32_788
  let c0_i32_789 : BitVec 32 := 0#32
  let v1323 : BitVec 1 := Scalar.cmpi .slt v1319 c0_i32_789
  let v1324 : BitVec 1 := Scalar.xori v1322 v1323
  let c0_i32_787 : BitVec 32 := 0#32
  let v1321 : BitVec 1 := Scalar.cmpi .ne v1320 c0_i32_787
  let v1325 : BitVec 1 := Scalar.andi v1324 v1321
  let v1326 : BitVec 32 := Scalar.addi v1320 v1319
  let v1327 : BitVec 32 := Scalar.select v1325 v1326 v1320
  let c1_i32_790 : BitVec 32 := 1#32
  let v1328 : BitVec 32 := Scalar.muli v1327 c1_i32_790
  let v1329 : BitVec 32 := Scalar.addi c0_i32_791 v1328
  v1329.toNat
def k0_dev44 (d0 : Dev nD) : Nat :=
  let c0_i32_802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_794 : BitVec 32 := 14#32
  let v1336 : BitVec 32 := Scalar.addi v2 c14_i32_794
  let c16_i32_795 : BitVec 32 := 16#32
  let c0_i32_796 : BitVec 32 := 0#32
  let v1337 : BitVec 1 := Scalar.cmpi .eq c16_i32_795 c0_i32_796
  let c1_i32_797 : BitVec 32 := 1#32
  let v1338 : BitVec 32 := Scalar.select v1337 c1_i32_797 c16_i32_795
  let v1339 : BitVec 32 := Scalar.remsi v1336 v1338
  let c0_i32_799 : BitVec 32 := 0#32
  let v1341 : BitVec 1 := Scalar.cmpi .slt v1339 c0_i32_799
  let c0_i32_800 : BitVec 32 := 0#32
  let v1342 : BitVec 1 := Scalar.cmpi .slt v1338 c0_i32_800
  let v1343 : BitVec 1 := Scalar.xori v1341 v1342
  let c0_i32_798 : BitVec 32 := 0#32
  let v1340 : BitVec 1 := Scalar.cmpi .ne v1339 c0_i32_798
  let v1344 : BitVec 1 := Scalar.andi v1343 v1340
  let v1345 : BitVec 32 := Scalar.addi v1339 v1338
  let v1346 : BitVec 32 := Scalar.select v1344 v1345 v1339
  let c1_i32_801 : BitVec 32 := 1#32
  let v1347 : BitVec 32 := Scalar.muli v1346 c1_i32_801
  let v1348 : BitVec 32 := Scalar.addi c0_i32_802 v1347
  v1348.toNat
def k0_dev45 (d0 : Dev nD) : Nat :=
  let c0_i32_813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_805 : BitVec 32 := 15#32
  let v1355 : BitVec 32 := Scalar.addi v2 c15_i32_805
  let c16_i32_806 : BitVec 32 := 16#32
  let c0_i32_807 : BitVec 32 := 0#32
  let v1356 : BitVec 1 := Scalar.cmpi .eq c16_i32_806 c0_i32_807
  let c1_i32_808 : BitVec 32 := 1#32
  let v1357 : BitVec 32 := Scalar.select v1356 c1_i32_808 c16_i32_806
  let v1358 : BitVec 32 := Scalar.remsi v1355 v1357
  let c0_i32_810 : BitVec 32 := 0#32
  let v1360 : BitVec 1 := Scalar.cmpi .slt v1358 c0_i32_810
  let c0_i32_811 : BitVec 32 := 0#32
  let v1361 : BitVec 1 := Scalar.cmpi .slt v1357 c0_i32_811
  let v1362 : BitVec 1 := Scalar.xori v1360 v1361
  let c0_i32_809 : BitVec 32 := 0#32
  let v1359 : BitVec 1 := Scalar.cmpi .ne v1358 c0_i32_809
  let v1363 : BitVec 1 := Scalar.andi v1362 v1359
  let v1364 : BitVec 32 := Scalar.addi v1358 v1357
  let v1365 : BitVec 32 := Scalar.select v1363 v1364 v1358
  let c1_i32_812 : BitVec 32 := 1#32
  let v1366 : BitVec 32 := Scalar.muli v1365 c1_i32_812
  let v1367 : BitVec 32 := Scalar.addi c0_i32_813 v1366
  v1367.toNat
def k0_mult17 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_816 : BitVec 32 := 1#32
  let v1374 : BitVec 32 := Scalar.subi v2 c1_i32_816
  let c16_i32_817 : BitVec 32 := 16#32
  let c0_i32_818 : BitVec 32 := 0#32
  let v1375 : BitVec 1 := Scalar.cmpi .eq c16_i32_817 c0_i32_818
  let c1_i32_819 : BitVec 32 := 1#32
  let v1376 : BitVec 32 := Scalar.select v1375 c1_i32_819 c16_i32_817
  let v1377 : BitVec 32 := Scalar.remsi v1374 v1376
  let c0_i32_821 : BitVec 32 := 0#32
  let v1379 : BitVec 1 := Scalar.cmpi .slt v1377 c0_i32_821
  let c0_i32_822 : BitVec 32 := 0#32
  let v1380 : BitVec 1 := Scalar.cmpi .slt v1376 c0_i32_822
  let v1381 : BitVec 1 := Scalar.xori v1379 v1380
  let c0_i32_820 : BitVec 32 := 0#32
  let v1378 : BitVec 1 := Scalar.cmpi .ne v1377 c0_i32_820
  let v1382 : BitVec 1 := Scalar.andi v1381 v1378
  let v1383 : BitVec 32 := Scalar.addi v1377 v1376
  let v1384 : BitVec 32 := Scalar.select v1382 v1383 v1377
  let c64_i32_823 : BitVec 32 := 64#32
  let v1385 : BitVec 32 := Scalar.muli v1384 c64_i32_823
  v1385
def k0_off11 (d0 : Dev nD) (c1_i32_816 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1374 : BitVec 32 := Scalar.subi v2 c1_i32_816
  let c16_i32_817 : BitVec 32 := 16#32
  let c0_i32_818 : BitVec 32 := 0#32
  let v1375 : BitVec 1 := Scalar.cmpi .eq c16_i32_817 c0_i32_818
  let c1_i32_819 : BitVec 32 := 1#32
  let v1376 : BitVec 32 := Scalar.select v1375 c1_i32_819 c16_i32_817
  let v1377 : BitVec 32 := Scalar.remsi v1374 v1376
  let c0_i32_821 : BitVec 32 := 0#32
  let v1379 : BitVec 1 := Scalar.cmpi .slt v1377 c0_i32_821
  let c0_i32_822 : BitVec 32 := 0#32
  let v1380 : BitVec 1 := Scalar.cmpi .slt v1376 c0_i32_822
  let v1381 : BitVec 1 := Scalar.xori v1379 v1380
  let c0_i32_820 : BitVec 32 := 0#32
  let v1378 : BitVec 1 := Scalar.cmpi .ne v1377 c0_i32_820
  let v1382 : BitVec 1 := Scalar.andi v1381 v1378
  let v1383 : BitVec 32 := Scalar.addi v1377 v1376
  let v1384 : BitVec 32 := Scalar.select v1382 v1383 v1377
  let c64_i32_823 : BitVec 32 := 64#32
  let v1385 : BitVec 32 := Scalar.muli v1384 c64_i32_823
  let v1386 : BitVec 32 := v1385
  let c0_i32_826 : BitVec 32 := 0#32
  ![v1386.toNat, 0]
def k0_mult18 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_828 : BitVec 32 := 2#32
  let v1393 : BitVec 32 := Scalar.subi v2 c2_i32_828
  let c16_i32_829 : BitVec 32 := 16#32
  let c0_i32_830 : BitVec 32 := 0#32
  let v1394 : BitVec 1 := Scalar.cmpi .eq c16_i32_829 c0_i32_830
  let c1_i32_831 : BitVec 32 := 1#32
  let v1395 : BitVec 32 := Scalar.select v1394 c1_i32_831 c16_i32_829
  let v1396 : BitVec 32 := Scalar.remsi v1393 v1395
  let c0_i32_833 : BitVec 32 := 0#32
  let v1398 : BitVec 1 := Scalar.cmpi .slt v1396 c0_i32_833
  let c0_i32_834 : BitVec 32 := 0#32
  let v1399 : BitVec 1 := Scalar.cmpi .slt v1395 c0_i32_834
  let v1400 : BitVec 1 := Scalar.xori v1398 v1399
  let c0_i32_832 : BitVec 32 := 0#32
  let v1397 : BitVec 1 := Scalar.cmpi .ne v1396 c0_i32_832
  let v1401 : BitVec 1 := Scalar.andi v1400 v1397
  let v1402 : BitVec 32 := Scalar.addi v1396 v1395
  let v1403 : BitVec 32 := Scalar.select v1401 v1402 v1396
  let c64_i32_835 : BitVec 32 := 64#32
  let v1404 : BitVec 32 := Scalar.muli v1403 c64_i32_835
  v1404
def k0_mult19 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_840 : BitVec 32 := 3#32
  let v1412 : BitVec 32 := Scalar.subi v2 c3_i32_840
  let c16_i32_841 : BitVec 32 := 16#32
  let c0_i32_842 : BitVec 32 := 0#32
  let v1413 : BitVec 1 := Scalar.cmpi .eq c16_i32_841 c0_i32_842
  let c1_i32_843 : BitVec 32 := 1#32
  let v1414 : BitVec 32 := Scalar.select v1413 c1_i32_843 c16_i32_841
  let v1415 : BitVec 32 := Scalar.remsi v1412 v1414
  let c0_i32_845 : BitVec 32 := 0#32
  let v1417 : BitVec 1 := Scalar.cmpi .slt v1415 c0_i32_845
  let c0_i32_846 : BitVec 32 := 0#32
  let v1418 : BitVec 1 := Scalar.cmpi .slt v1414 c0_i32_846
  let v1419 : BitVec 1 := Scalar.xori v1417 v1418
  let c0_i32_844 : BitVec 32 := 0#32
  let v1416 : BitVec 1 := Scalar.cmpi .ne v1415 c0_i32_844
  let v1420 : BitVec 1 := Scalar.andi v1419 v1416
  let v1421 : BitVec 32 := Scalar.addi v1415 v1414
  let v1422 : BitVec 32 := Scalar.select v1420 v1421 v1415
  let c64_i32_847 : BitVec 32 := 64#32
  let v1423 : BitVec 32 := Scalar.muli v1422 c64_i32_847
  v1423
def k0_mult20 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_852 : BitVec 32 := 4#32
  let v1431 : BitVec 32 := Scalar.subi v2 c4_i32_852
  let c16_i32_853 : BitVec 32 := 16#32
  let c0_i32_854 : BitVec 32 := 0#32
  let v1432 : BitVec 1 := Scalar.cmpi .eq c16_i32_853 c0_i32_854
  let c1_i32_855 : BitVec 32 := 1#32
  let v1433 : BitVec 32 := Scalar.select v1432 c1_i32_855 c16_i32_853
  let v1434 : BitVec 32 := Scalar.remsi v1431 v1433
  let c0_i32_857 : BitVec 32 := 0#32
  let v1436 : BitVec 1 := Scalar.cmpi .slt v1434 c0_i32_857
  let c0_i32_858 : BitVec 32 := 0#32
  let v1437 : BitVec 1 := Scalar.cmpi .slt v1433 c0_i32_858
  let v1438 : BitVec 1 := Scalar.xori v1436 v1437
  let c0_i32_856 : BitVec 32 := 0#32
  let v1435 : BitVec 1 := Scalar.cmpi .ne v1434 c0_i32_856
  let v1439 : BitVec 1 := Scalar.andi v1438 v1435
  let v1440 : BitVec 32 := Scalar.addi v1434 v1433
  let v1441 : BitVec 32 := Scalar.select v1439 v1440 v1434
  let c64_i32_859 : BitVec 32 := 64#32
  let v1442 : BitVec 32 := Scalar.muli v1441 c64_i32_859
  v1442
def k0_mult21 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_864 : BitVec 32 := 5#32
  let v1450 : BitVec 32 := Scalar.subi v2 c5_i32_864
  let c16_i32_865 : BitVec 32 := 16#32
  let c0_i32_866 : BitVec 32 := 0#32
  let v1451 : BitVec 1 := Scalar.cmpi .eq c16_i32_865 c0_i32_866
  let c1_i32_867 : BitVec 32 := 1#32
  let v1452 : BitVec 32 := Scalar.select v1451 c1_i32_867 c16_i32_865
  let v1453 : BitVec 32 := Scalar.remsi v1450 v1452
  let c0_i32_869 : BitVec 32 := 0#32
  let v1455 : BitVec 1 := Scalar.cmpi .slt v1453 c0_i32_869
  let c0_i32_870 : BitVec 32 := 0#32
  let v1456 : BitVec 1 := Scalar.cmpi .slt v1452 c0_i32_870
  let v1457 : BitVec 1 := Scalar.xori v1455 v1456
  let c0_i32_868 : BitVec 32 := 0#32
  let v1454 : BitVec 1 := Scalar.cmpi .ne v1453 c0_i32_868
  let v1458 : BitVec 1 := Scalar.andi v1457 v1454
  let v1459 : BitVec 32 := Scalar.addi v1453 v1452
  let v1460 : BitVec 32 := Scalar.select v1458 v1459 v1453
  let c64_i32_871 : BitVec 32 := 64#32
  let v1461 : BitVec 32 := Scalar.muli v1460 c64_i32_871
  v1461
def k0_mult22 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_876 : BitVec 32 := 6#32
  let v1469 : BitVec 32 := Scalar.subi v2 c6_i32_876
  let c16_i32_877 : BitVec 32 := 16#32
  let c0_i32_878 : BitVec 32 := 0#32
  let v1470 : BitVec 1 := Scalar.cmpi .eq c16_i32_877 c0_i32_878
  let c1_i32_879 : BitVec 32 := 1#32
  let v1471 : BitVec 32 := Scalar.select v1470 c1_i32_879 c16_i32_877
  let v1472 : BitVec 32 := Scalar.remsi v1469 v1471
  let c0_i32_881 : BitVec 32 := 0#32
  let v1474 : BitVec 1 := Scalar.cmpi .slt v1472 c0_i32_881
  let c0_i32_882 : BitVec 32 := 0#32
  let v1475 : BitVec 1 := Scalar.cmpi .slt v1471 c0_i32_882
  let v1476 : BitVec 1 := Scalar.xori v1474 v1475
  let c0_i32_880 : BitVec 32 := 0#32
  let v1473 : BitVec 1 := Scalar.cmpi .ne v1472 c0_i32_880
  let v1477 : BitVec 1 := Scalar.andi v1476 v1473
  let v1478 : BitVec 32 := Scalar.addi v1472 v1471
  let v1479 : BitVec 32 := Scalar.select v1477 v1478 v1472
  let c64_i32_883 : BitVec 32 := 64#32
  let v1480 : BitVec 32 := Scalar.muli v1479 c64_i32_883
  v1480
def k0_mult23 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_888 : BitVec 32 := 7#32
  let v1488 : BitVec 32 := Scalar.subi v2 c7_i32_888
  let c16_i32_889 : BitVec 32 := 16#32
  let c0_i32_890 : BitVec 32 := 0#32
  let v1489 : BitVec 1 := Scalar.cmpi .eq c16_i32_889 c0_i32_890
  let c1_i32_891 : BitVec 32 := 1#32
  let v1490 : BitVec 32 := Scalar.select v1489 c1_i32_891 c16_i32_889
  let v1491 : BitVec 32 := Scalar.remsi v1488 v1490
  let c0_i32_893 : BitVec 32 := 0#32
  let v1493 : BitVec 1 := Scalar.cmpi .slt v1491 c0_i32_893
  let c0_i32_894 : BitVec 32 := 0#32
  let v1494 : BitVec 1 := Scalar.cmpi .slt v1490 c0_i32_894
  let v1495 : BitVec 1 := Scalar.xori v1493 v1494
  let c0_i32_892 : BitVec 32 := 0#32
  let v1492 : BitVec 1 := Scalar.cmpi .ne v1491 c0_i32_892
  let v1496 : BitVec 1 := Scalar.andi v1495 v1492
  let v1497 : BitVec 32 := Scalar.addi v1491 v1490
  let v1498 : BitVec 32 := Scalar.select v1496 v1497 v1491
  let c64_i32_895 : BitVec 32 := 64#32
  let v1499 : BitVec 32 := Scalar.muli v1498 c64_i32_895
  v1499
def k0_mult24 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_900 : BitVec 32 := 8#32
  let v1507 : BitVec 32 := Scalar.subi v2 c8_i32_900
  let c16_i32_901 : BitVec 32 := 16#32
  let c0_i32_902 : BitVec 32 := 0#32
  let v1508 : BitVec 1 := Scalar.cmpi .eq c16_i32_901 c0_i32_902
  let c1_i32_903 : BitVec 32 := 1#32
  let v1509 : BitVec 32 := Scalar.select v1508 c1_i32_903 c16_i32_901
  let v1510 : BitVec 32 := Scalar.remsi v1507 v1509
  let c0_i32_905 : BitVec 32 := 0#32
  let v1512 : BitVec 1 := Scalar.cmpi .slt v1510 c0_i32_905
  let c0_i32_906 : BitVec 32 := 0#32
  let v1513 : BitVec 1 := Scalar.cmpi .slt v1509 c0_i32_906
  let v1514 : BitVec 1 := Scalar.xori v1512 v1513
  let c0_i32_904 : BitVec 32 := 0#32
  let v1511 : BitVec 1 := Scalar.cmpi .ne v1510 c0_i32_904
  let v1515 : BitVec 1 := Scalar.andi v1514 v1511
  let v1516 : BitVec 32 := Scalar.addi v1510 v1509
  let v1517 : BitVec 32 := Scalar.select v1515 v1516 v1510
  let c64_i32_907 : BitVec 32 := 64#32
  let v1518 : BitVec 32 := Scalar.muli v1517 c64_i32_907
  v1518
def k0_mult25 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_912 : BitVec 32 := 9#32
  let v1526 : BitVec 32 := Scalar.subi v2 c9_i32_912
  let c16_i32_913 : BitVec 32 := 16#32
  let c0_i32_914 : BitVec 32 := 0#32
  let v1527 : BitVec 1 := Scalar.cmpi .eq c16_i32_913 c0_i32_914
  let c1_i32_915 : BitVec 32 := 1#32
  let v1528 : BitVec 32 := Scalar.select v1527 c1_i32_915 c16_i32_913
  let v1529 : BitVec 32 := Scalar.remsi v1526 v1528
  let c0_i32_917 : BitVec 32 := 0#32
  let v1531 : BitVec 1 := Scalar.cmpi .slt v1529 c0_i32_917
  let c0_i32_918 : BitVec 32 := 0#32
  let v1532 : BitVec 1 := Scalar.cmpi .slt v1528 c0_i32_918
  let v1533 : BitVec 1 := Scalar.xori v1531 v1532
  let c0_i32_916 : BitVec 32 := 0#32
  let v1530 : BitVec 1 := Scalar.cmpi .ne v1529 c0_i32_916
  let v1534 : BitVec 1 := Scalar.andi v1533 v1530
  let v1535 : BitVec 32 := Scalar.addi v1529 v1528
  let v1536 : BitVec 32 := Scalar.select v1534 v1535 v1529
  let c64_i32_919 : BitVec 32 := 64#32
  let v1537 : BitVec 32 := Scalar.muli v1536 c64_i32_919
  v1537
def k0_mult26 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_924 : BitVec 32 := 10#32
  let v1545 : BitVec 32 := Scalar.subi v2 c10_i32_924
  let c16_i32_925 : BitVec 32 := 16#32
  let c0_i32_926 : BitVec 32 := 0#32
  let v1546 : BitVec 1 := Scalar.cmpi .eq c16_i32_925 c0_i32_926
  let c1_i32_927 : BitVec 32 := 1#32
  let v1547 : BitVec 32 := Scalar.select v1546 c1_i32_927 c16_i32_925
  let v1548 : BitVec 32 := Scalar.remsi v1545 v1547
  let c0_i32_929 : BitVec 32 := 0#32
  let v1550 : BitVec 1 := Scalar.cmpi .slt v1548 c0_i32_929
  let c0_i32_930 : BitVec 32 := 0#32
  let v1551 : BitVec 1 := Scalar.cmpi .slt v1547 c0_i32_930
  let v1552 : BitVec 1 := Scalar.xori v1550 v1551
  let c0_i32_928 : BitVec 32 := 0#32
  let v1549 : BitVec 1 := Scalar.cmpi .ne v1548 c0_i32_928
  let v1553 : BitVec 1 := Scalar.andi v1552 v1549
  let v1554 : BitVec 32 := Scalar.addi v1548 v1547
  let v1555 : BitVec 32 := Scalar.select v1553 v1554 v1548
  let c64_i32_931 : BitVec 32 := 64#32
  let v1556 : BitVec 32 := Scalar.muli v1555 c64_i32_931
  v1556
def k0_mult27 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_936 : BitVec 32 := 11#32
  let v1564 : BitVec 32 := Scalar.subi v2 c11_i32_936
  let c16_i32_937 : BitVec 32 := 16#32
  let c0_i32_938 : BitVec 32 := 0#32
  let v1565 : BitVec 1 := Scalar.cmpi .eq c16_i32_937 c0_i32_938
  let c1_i32_939 : BitVec 32 := 1#32
  let v1566 : BitVec 32 := Scalar.select v1565 c1_i32_939 c16_i32_937
  let v1567 : BitVec 32 := Scalar.remsi v1564 v1566
  let c0_i32_941 : BitVec 32 := 0#32
  let v1569 : BitVec 1 := Scalar.cmpi .slt v1567 c0_i32_941
  let c0_i32_942 : BitVec 32 := 0#32
  let v1570 : BitVec 1 := Scalar.cmpi .slt v1566 c0_i32_942
  let v1571 : BitVec 1 := Scalar.xori v1569 v1570
  let c0_i32_940 : BitVec 32 := 0#32
  let v1568 : BitVec 1 := Scalar.cmpi .ne v1567 c0_i32_940
  let v1572 : BitVec 1 := Scalar.andi v1571 v1568
  let v1573 : BitVec 32 := Scalar.addi v1567 v1566
  let v1574 : BitVec 32 := Scalar.select v1572 v1573 v1567
  let c64_i32_943 : BitVec 32 := 64#32
  let v1575 : BitVec 32 := Scalar.muli v1574 c64_i32_943
  v1575
def k0_mult28 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_948 : BitVec 32 := 12#32
  let v1583 : BitVec 32 := Scalar.subi v2 c12_i32_948
  let c16_i32_949 : BitVec 32 := 16#32
  let c0_i32_950 : BitVec 32 := 0#32
  let v1584 : BitVec 1 := Scalar.cmpi .eq c16_i32_949 c0_i32_950
  let c1_i32_951 : BitVec 32 := 1#32
  let v1585 : BitVec 32 := Scalar.select v1584 c1_i32_951 c16_i32_949
  let v1586 : BitVec 32 := Scalar.remsi v1583 v1585
  let c0_i32_953 : BitVec 32 := 0#32
  let v1588 : BitVec 1 := Scalar.cmpi .slt v1586 c0_i32_953
  let c0_i32_954 : BitVec 32 := 0#32
  let v1589 : BitVec 1 := Scalar.cmpi .slt v1585 c0_i32_954
  let v1590 : BitVec 1 := Scalar.xori v1588 v1589
  let c0_i32_952 : BitVec 32 := 0#32
  let v1587 : BitVec 1 := Scalar.cmpi .ne v1586 c0_i32_952
  let v1591 : BitVec 1 := Scalar.andi v1590 v1587
  let v1592 : BitVec 32 := Scalar.addi v1586 v1585
  let v1593 : BitVec 32 := Scalar.select v1591 v1592 v1586
  let c64_i32_955 : BitVec 32 := 64#32
  let v1594 : BitVec 32 := Scalar.muli v1593 c64_i32_955
  v1594
def k0_mult29 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_960 : BitVec 32 := 13#32
  let v1602 : BitVec 32 := Scalar.subi v2 c13_i32_960
  let c16_i32_961 : BitVec 32 := 16#32
  let c0_i32_962 : BitVec 32 := 0#32
  let v1603 : BitVec 1 := Scalar.cmpi .eq c16_i32_961 c0_i32_962
  let c1_i32_963 : BitVec 32 := 1#32
  let v1604 : BitVec 32 := Scalar.select v1603 c1_i32_963 c16_i32_961
  let v1605 : BitVec 32 := Scalar.remsi v1602 v1604
  let c0_i32_965 : BitVec 32 := 0#32
  let v1607 : BitVec 1 := Scalar.cmpi .slt v1605 c0_i32_965
  let c0_i32_966 : BitVec 32 := 0#32
  let v1608 : BitVec 1 := Scalar.cmpi .slt v1604 c0_i32_966
  let v1609 : BitVec 1 := Scalar.xori v1607 v1608
  let c0_i32_964 : BitVec 32 := 0#32
  let v1606 : BitVec 1 := Scalar.cmpi .ne v1605 c0_i32_964
  let v1610 : BitVec 1 := Scalar.andi v1609 v1606
  let v1611 : BitVec 32 := Scalar.addi v1605 v1604
  let v1612 : BitVec 32 := Scalar.select v1610 v1611 v1605
  let c64_i32_967 : BitVec 32 := 64#32
  let v1613 : BitVec 32 := Scalar.muli v1612 c64_i32_967
  v1613
def k0_mult30 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_972 : BitVec 32 := 14#32
  let v1621 : BitVec 32 := Scalar.subi v2 c14_i32_972
  let c16_i32_973 : BitVec 32 := 16#32
  let c0_i32_974 : BitVec 32 := 0#32
  let v1622 : BitVec 1 := Scalar.cmpi .eq c16_i32_973 c0_i32_974
  let c1_i32_975 : BitVec 32 := 1#32
  let v1623 : BitVec 32 := Scalar.select v1622 c1_i32_975 c16_i32_973
  let v1624 : BitVec 32 := Scalar.remsi v1621 v1623
  let c0_i32_977 : BitVec 32 := 0#32
  let v1626 : BitVec 1 := Scalar.cmpi .slt v1624 c0_i32_977
  let c0_i32_978 : BitVec 32 := 0#32
  let v1627 : BitVec 1 := Scalar.cmpi .slt v1623 c0_i32_978
  let v1628 : BitVec 1 := Scalar.xori v1626 v1627
  let c0_i32_976 : BitVec 32 := 0#32
  let v1625 : BitVec 1 := Scalar.cmpi .ne v1624 c0_i32_976
  let v1629 : BitVec 1 := Scalar.andi v1628 v1625
  let v1630 : BitVec 32 := Scalar.addi v1624 v1623
  let v1631 : BitVec 32 := Scalar.select v1629 v1630 v1624
  let c64_i32_979 : BitVec 32 := 64#32
  let v1632 : BitVec 32 := Scalar.muli v1631 c64_i32_979
  v1632
def k0_mult31 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_984 : BitVec 32 := 15#32
  let v1640 : BitVec 32 := Scalar.subi v2 c15_i32_984
  let c16_i32_985 : BitVec 32 := 16#32
  let c0_i32_986 : BitVec 32 := 0#32
  let v1641 : BitVec 1 := Scalar.cmpi .eq c16_i32_985 c0_i32_986
  let c1_i32_987 : BitVec 32 := 1#32
  let v1642 : BitVec 32 := Scalar.select v1641 c1_i32_987 c16_i32_985
  let v1643 : BitVec 32 := Scalar.remsi v1640 v1642
  let c0_i32_989 : BitVec 32 := 0#32
  let v1645 : BitVec 1 := Scalar.cmpi .slt v1643 c0_i32_989
  let c0_i32_990 : BitVec 32 := 0#32
  let v1646 : BitVec 1 := Scalar.cmpi .slt v1642 c0_i32_990
  let v1647 : BitVec 1 := Scalar.xori v1645 v1646
  let c0_i32_988 : BitVec 32 := 0#32
  let v1644 : BitVec 1 := Scalar.cmpi .ne v1643 c0_i32_988
  let v1648 : BitVec 1 := Scalar.andi v1647 v1644
  let v1649 : BitVec 32 := Scalar.addi v1643 v1642
  let v1650 : BitVec 32 := Scalar.select v1648 v1649 v1643
  let c64_i32_991 : BitVec 32 := 64#32
  let v1651 : BitVec 32 := Scalar.muli v1650 c64_i32_991
  v1651
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S16x1024x512 : Shape := ⟨3, ![16, 1024, 512]⟩
abbrev S_ : Shape := ⟨0, ![]⟩
abbrev S1024x512 : Shape := ⟨2, ![1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16x1024x512, .f32⟩
  | .hbm, ⟨2, _⟩ => ⟨S_, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Loops.lean ====
module

public import proofs.«01_k».proof.Proof.Gen.KernelIdeal.Skeleton

/-! # The kernel body as five loops

The printed body is unrolled: fifteen signals, a wait, fifteen stores and copies, and so on. Here the same
body is written as loops over the fifteen offsets `r = 0 … 14` (the peer at distance `1 + r`), and shown to be
the printed one by unfolding. The unfolding is done in two halves, cut at the accumulator's first store. -/

@[expose] public section

noncomputable section

namespace Cert.KernelIdeal.Loops

open Idealize.ShloMosaic Idealize.SL.Sem
open Cert.KernelIdeal Cert.KernelIdeal.Gen

variable {F : FTy → Type} [FloatOps F]

/-- The word `1 + r` an offset's index chain is written over. -/
abbrev wd (r : Fin 15) : BitVec 32 := BitVec.ofNat 32 (1 + r.val)

/-- Run `f` over a list, in order. -/
def each {α : Type} (f : α → Prog (TpuEff nD τ sig (Elt F) Λ₀ .tc) PUnit) : List α → Prog (TpuEff nD τ sig (Elt F) Λ₀ .tc) PUnit
  | [] => pure ⟨⟩
  | a :: l => do f a; each f l

/-- The devices the entry barrier signals, in the order of the text. -/
abbrev sigDevs (d0 : Dev nD) : List (Dev nD) := [⟨k0_dev1 d0, k0_dev1_lt d0⟩, ⟨k0_dev2 d0, k0_dev2_lt d0⟩, ⟨k0_dev3 d0, k0_dev3_lt d0⟩, ⟨k0_dev4 d0, k0_dev4_lt d0⟩, ⟨k0_dev5 d0, k0_dev5_lt d0⟩, ⟨k0_dev6 d0, k0_dev6_lt d0⟩, ⟨k0_dev7 d0, k0_dev7_lt d0⟩, ⟨k0_dev8 d0, k0_dev8_lt d0⟩, ⟨k0_dev9 d0, k0_dev9_lt d0⟩, ⟨k0_dev10 d0, k0_dev10_lt d0⟩, ⟨k0_dev11 d0, k0_dev11_lt d0⟩, ⟨k0_dev12 d0, k0_dev12_lt d0⟩, ⟨k0_dev13 d0, k0_dev13_lt d0⟩, ⟨k0_dev14 d0, k0_dev14_lt d0⟩, ⟨k0_dev15 d0, k0_dev15_lt d0⟩]

/-- The destinations of the copies of the reduction phase. -/
abbrev rsDevs (d0 : Dev nD) : List (Dev nD) := [⟨k0_dev16 d0, k0_dev16_lt d0⟩, ⟨k0_dev17 d0, k0_dev17_lt d0⟩, ⟨k0_dev18 d0, k0_dev18_lt d0⟩, ⟨k0_dev19 d0, k0_dev19_lt d0⟩, ⟨k0_dev20 d0, k0_dev20_lt d0⟩, ⟨k0_dev21 d0, k0_dev21_lt d0⟩, ⟨k0_dev22 d0, k0_dev22_lt d0⟩, ⟨k0_dev23 d0, k0_dev23_lt d0⟩, ⟨k0_dev24 d0, k0_dev24_lt d0⟩, ⟨k0_dev25 d0, k0_dev25_lt d0⟩, ⟨k0_dev26 d0, k0_dev26_lt d0⟩, ⟨k0_dev27 d0, k0_dev27_lt d0⟩, ⟨k0_dev28 d0, k0_dev28_lt d0⟩, ⟨k0_dev29 d0, k0_dev29_lt d0⟩, ⟨k0_dev30 d0, k0_dev30_lt d0⟩]

/-- The destinations of the copies of the gathering phase. -/
abbrev agDevs (d0 : Dev nD) : List (Dev nD) := [⟨k0_dev31 d0, k0_dev31_lt d0⟩, ⟨k0_dev32 d0, k0_dev32_lt d0⟩, ⟨k0_dev33 d0, k0_dev33_lt d0⟩, ⟨k0_dev34 d0, k0_dev34_lt d0⟩, ⟨k0_dev35 d0, k0_dev35_lt d0⟩, ⟨k0_dev36 d0, k0_dev36_lt d0⟩, ⟨k0_dev37 d0, k0_dev37_lt d0⟩, ⟨k0_dev38 d0, k0_dev38_lt d0⟩, ⟨k0_dev39 d0, k0_dev39_lt d0⟩, ⟨k0_dev40 d0, k0_dev40_lt d0⟩, ⟨k0_dev41 d0, k0_dev41_lt d0⟩, ⟨k0_dev42 d0, k0_dev42_lt d0⟩, ⟨k0_dev43 d0, k0_dev43_lt d0⟩, ⟨k0_dev44 d0, k0_dev44_lt d0⟩, ⟨k0_dev45 d0, k0_dev45_lt d0⟩]

/-- The fifteen offsets. -/
abbrev offs : List (Fin 15) := [0, 1, 2, 3, 4, 5, 6, 7, 8, 9, 10, 11, 12, 13, 14]

section Steps

variable (arg0 : Memref sig .tc .vmem S1024x512 .f32) (harg0 : arg0.IsWhole) (arg1 : Memref sig .tc .vmem S1024x512 .bf16) (harg1 : arg1.IsWhole) (arg2 : Memref sig .tc .vmem S1024x512 .bf16) (harg2 : arg2.IsWhole) (arg3 : Memref sig .tc .vmem S64x512 .f32) (harg3 : arg3.IsWhole) (arg4 : Memref sig .tc .vmem S16x64x512 .bf16) (harg4 : arg4.IsWhole) (arg5 : DmaSems sig S16) (arg6 : DmaSems sig S16) (arg7 : DmaSems sig S16) (arg8 : DmaSems sig S16)

/-- The `k`-th semaphore of an array at a one-element offset. -/
abbrev semAt (a : DmaSems sig S16) (off : Fin 1 → Nat) (h : ∀ i, off i + S1.size i ≤ S16.size i) : DmaSem sig :=
  ((a.slice (Rect.unit (s := S16) off S1.size h)).squeeze S_ squeezes_S1_S_).sem

/-- The block of 64 rows of a 1024-row buffer at an offset. -/
abbrev rowsAt {e : EltTy} (a : Memref sig .tc .vmem S1024x512 e) (off : Fin 2 → Nat) (h : ∀ i, off i + S64x512.size i ≤ S1024x512.size i) :
    Memref sig .tc .vmem S64x512 e :=
  a.slice (Rect.unit (s := S1024x512) off S64x512.size h) (fun _ => rfl)

/-- The slot of a sixteen-slot buffer at an offset. -/
abbrev slotAt (a : Memref sig .tc .vmem S16x64x512 .bf16) (off : Fin 3 → Nat) (h : ∀ i, off i + S1x64x512.size i ≤ S16x64x512.size i) :
    Memref sig .tc .vmem S64x512 .bf16 :=
  (a.slice (Rect.unit (s := S16x64x512) off S1x64x512.size h) (fun _ => rfl)).squeeze S64x512 squeezes_S1x64x512_S64x512

/-- One barrier signal. -/
def sigStep (dst : Dev nD) : Prog (TpuEff nD τ sig (Elt F) Λ₀ .tc) PUnit :=
  semSignalWord dst (SemArray.scalar (sig.barrier 0 rfl) : Sems sig S_).sem 1#32

/-- One copy of the reduction phase: the peer's block of the argument is stored in the send buffer and sent. -/
def rsStep (d0 : Dev nD) (p : Fin 15 × Dev nD) : Prog (TpuEff nD τ sig (Elt F) Λ₀ .tc) PUnit := do
  let v : Vec F S64x512 .f32 ← Prog.lift (.load arg0 (Rect.unit (s := S1024x512) (k0_off1 d0 (wd p.1)) S64x512.size (k0_off1_inb d0 p.1)).toLoadRect (View.loadsAt_vmem h_S64x512))
  let _w : Vec F S64x512 .bf16 ← Prog.lift (.load arg2 (Rect.unit (s := S1024x512) (k0_off1 d0 (wd p.1)) S64x512.size (k0_off1_inb d0 p.1)).toLoadRect (View.loadsAt_vmem h_S64x512))
  Prog.lift (.store arg2 (Rect.unit (s := S1024x512) (k0_off1 d0 (wd p.1)) S64x512.size (k0_off1_inb d0 p.1)) (k0_pay1 v) Finset.univ (View.stores_vmem h_S64x512 (harg2.storeExact_slice rfl _ (k0_off1_packedbf16 d0 p.1)) (fun _ => rfl)) (.inl rfl))
  Prog.lift (.enqueueDma (rowsAt arg2 (k0_off5 d0 (wd p.1)) (k0_off5_inb d0 p.1)) (.remote (Dev.tc p.2) (slotAt arg4 (k0_off4 d0) (k0_off4_inb d0)) (.dma (semAt arg5 (k0_off2 d0 (wd p.1)) (k0_off2_inb d0 p.1)))) (.dma (semAt arg6 (k0_off3 d0) (k0_off3_inb d0))) (harg2.wordExact_slice rfl _ (k0_off5_wordsbf16 d0 p.1)) ((harg4.wordExact_slice rfl _ (k0_off4_wordsbf16 d0)).reshape _ _) ⟨⟨rfl, Or.inl rfl⟩, trivial⟩)

/-- The accumulator starts at the device's own block. -/
def accInit (d0 : Dev nD) : Prog (TpuEff nD τ sig (Elt F) Λ₀ .tc) PUnit := do
  let v : Vec F S64x512 .f32 ← Prog.lift (.load arg0 (Rect.unit (s := S1024x512) (k0_off6 d0) S64x512.size (k0_off6_inb d0)).toLoadRect (View.loadsAt_vmem h_S64x512))
  let _w : Vec F S64x512 .f32 ← Prog.lift (.load arg3 (Rect.unit (s := S64x512) ![0, 0] S64x512.size inb_S64x512_S64x512_0_0).toLoadRect (View.loadsAt_vmem h_S64x512))
  Prog.lift (.store arg3 (Rect.unit (s := S64x512) ![0, 0] S64x512.size inb_S64x512_S64x512_0_0) (k0_pay17 v) Finset.univ (View.stores_vmem_bits_univ h_S64x512 rfl) (.inl rfl))

/-- One arrival of the reduction phase: wait for the peer's block, add it to the accumulator. -/
def accStep (d0 : Dev nD) (r : Fin 15) : Prog (TpuEff nD τ sig (Elt F) Λ₀ .tc) PUnit := do
  Prog.lift (.waitDma2 (semAt arg6 (k0_off7 d0 (wd r)) (k0_off7_inb d0 r)) (slotAt arg4 (k0_off8 d0 (wd r)) (k0_off8_inb d0 r)) (slotAt arg4 (k0_off8 d0 (wd r)) (k0_off8_inb d0 r)) ((harg4.wordExact_slice rfl _ (k0_off8_wordsbf16 d0 r)).reshape _ _) ((harg4.wordExact_slice rfl _ (k0_off8_wordsbf16 d0 r)).reshape _ _))
  let v : Vec F S64x512 .f32 ← Prog.lift (.load arg3 (Rect.unit (s := S64x512) ![0, 0] S64x512.size inb_S64x512_S64x512_0_0).toLoadRect (View.loadsAt_vmem h_S64x512))
  let w : Vec F S1x64x512 .bf16 ← Prog.lift (.load arg4 (Rect.unit (s := S16x64x512) (k0_off9 d0 (wd r)) S1x64x512.size (k0_off9_inb d0 r)).toLoadRect (View.loadsAt_vmem h_S1x64x512))
  let _u : Vec F S64x512 .f32 ← Prog.lift (.load arg3 (Rect.unit (s := S64x512) ![0, 0] S64x512.size inb_S64x512_S64x512_0_0).toLoadRect (View.loadsAt_vmem h_S64x512))
  Prog.lift (.store arg3 (Rect.unit (s := S64x512) ![0, 0] S64x512.size inb_S64x512_S64x512_0_0) (k0_pay18 v w) Finset.univ (View.stores_vmem_bits_univ h_S64x512 rfl) (.inl rfl))

/-- The epilogue: the function of the sum is stored in the device's block of the result. -/
def epiStep (d0 : Dev nD) : Prog (TpuEff nD τ sig (Elt F) Λ₀ .tc) PUnit := do
  let v : Vec F S64x512 .f32 ← Prog.lift (.load arg3 (Rect.unit (s := S64x512) ![0, 0] S64x512.size inb_S64x512_S64x512_0_0).toLoadRect (View.loadsAt_vmem h_S64x512))
  let _w : Vec F S64x512 .bf16 ← Prog.lift (.load arg1 (Rect.unit (s := S1024x512) (k0_off6 d0) S64x512.size (k0_off6_inb d0)).toLoadRect (View.loadsAt_vmem h_S64x512))
  Prog.lift (.store arg1 (Rect.unit (s := S1024x512) (k0_off6 d0) S64x512.size (k0_off6_inb d0)) (k0_pay35 v) Finset.univ (View.stores_vmem h_S64x512 (harg1.storeExact_slice rfl _ (k0_off6_packedbf16 d0)) (fun _ => rfl)) (.inl rfl))

/-- One copy of the gathering phase: the device's own block of the result is sent. -/
def agStep (d0 : Dev nD) (p : Fin 15 × Dev nD) : Prog (TpuEff nD τ sig (Elt F) Λ₀ .tc) PUnit :=
  Prog.lift (.enqueueDma (rowsAt arg1 (k0_off10 d0) (k0_off10_inb d0)) (.remote (Dev.tc p.2) (rowsAt arg1 (k0_off10 d0) (k0_off10_inb d0)) (.dma (semAt arg7 (k0_off2 d0 (wd p.1)) (k0_off2_inb d0 p.1)))) (.dma (semAt arg8 (k0_off3 d0) (k0_off3_inb d0))) (harg1.wordExact_slice rfl _ (k0_off10_wordsbf16 d0)) (harg1.wordExact_slice rfl _ (k0_off10_wordsbf16 d0)) ⟨⟨rfl, Or.inl rfl⟩, trivial⟩)

/-- One arrival of the gathering phase. -/
def agWait (d0 : Dev nD) (r : Fin 15) : Prog (TpuEff nD τ sig (Elt F) Λ₀ .tc) PUnit :=
  Prog.lift (.waitDma2 (semAt arg8 (k0_off7 d0 (wd r)) (k0_off7_inb d0 r)) (rowsAt arg1 (k0_off11 d0 (wd r)) (k0_off11_inb d0 r)) (rowsAt arg1 (k0_off11 d0 (wd r)) (k0_off11_inb d0 r)) (harg1.wordExact_slice rfl _ (k0_off11_wordsbf16 d0 r)) (harg1.wordExact_slice rfl _ (k0_off11_wordsbf16 d0 r)))

/-- The send side of one copy of the reduction phase. -/
def rsDone (d0 : Dev nD) (r : Fin 15) : Prog (TpuEff nD τ sig (Elt F) Λ₀ .tc) PUnit :=
  Prog.lift (.waitDma2 (semAt arg5 (k0_off2 d0 (wd r)) (k0_off2_inb d0 r)) (slotAt arg4 (k0_off4 d0) (k0_off4_inb d0)) (rowsAt arg2 (k0_off5 d0 (wd r)) (k0_off5_inb d0 r)) ((harg4.wordExact_slice rfl _ (k0_off4_wordsbf16 d0)).reshape _ _) (harg2.wordExact_slice rfl _ (k0_off5_wordsbf16 d0 r)))

/-- The send side of one copy of the gathering phase. -/
def agDone (d0 : Dev nD) (r : Fin 15) : Prog (TpuEff nD τ sig (Elt F) Λ₀ .tc) PUnit :=
  Prog.lift (.waitDma2 (semAt arg7 (k0_off2 d0 (wd r)) (k0_off2_inb d0 r)) (rowsAt arg1 (k0_off10 d0) (k0_off10_inb d0)) (rowsAt arg1 (k0_off10 d0) (k0_off10_inb d0)) (harg1.wordExact_slice rfl _ (k0_off10_wordsbf16 d0)) (harg1.wordExact_slice rfl _ (k0_off10_wordsbf16 d0)))

end Steps

/-- The body as loops. -/
def body (arg0 : Memref sig .tc .vmem S1024x512 .f32) (harg0 : arg0.IsWhole) (arg1 : Memref sig .tc .vmem S1024x512 .bf16) (harg1 : arg1.IsWhole) (arg2 : Memref sig .tc .vmem S1024x512 .bf16) (harg2 : arg2.IsWhole) (arg3 : Memref sig .tc .vmem S64x512 .f32) (harg3 : arg3.IsWhole) (arg4 : Memref sig .tc .vmem S16x64x512 .bf16) (harg4 : arg4.IsWhole) (arg5 : DmaSems sig S16) (arg6 : DmaSems sig S16) (arg7 : DmaSems sig S16) (arg8 : DmaSems sig S16) :
    Prog (TpuEff nD τ sig (Elt F) Λ₀ .tc) PUnit := do
  let d0 : Dev nD ← Prog.lift .deviceId
  each sigStep (sigDevs d0)
  semWaitWord (SemArray.scalar (sig.barrier 0 rfl) : Sems sig S_).sem 15#32
  each (rsStep arg0 arg2 harg2 arg4 harg4 arg5 arg6 d0) (offs.zip (rsDevs d0))
  accInit arg0 arg3 d0
  each (accStep arg3 arg4 harg4 arg6 d0) offs
  epiStep arg1 harg1 arg3 d0
  each (agStep arg1 harg1 arg7 arg8 d0) (offs.zip (agDevs d0))
  each (agWait arg1 harg1 arg8 d0) offs
  each (rsDone arg2 harg2 arg4 harg4 arg5 d0) offs
  each (agDone arg1 harg1 arg7 d0) offs

section Cut

variable (arg0 : Memref sig .tc .vmem S1024x512 .f32) (harg0 : arg0.IsWhole) (arg1 : Memref sig .tc .vmem S1024x512 .bf16) (harg1 : arg1.IsWhole) (arg2 : Memref sig .tc .vmem S1024x512 .bf16) (harg2 : arg2.IsWhole) (arg3 : Memref sig .tc .vmem S64x512 .f32) (harg3 : arg3.IsWhole) (arg4 : Memref sig .tc .vmem S16x64x512 .bf16) (harg4 : arg4.IsWhole) (arg5 : DmaSems sig S16) (arg6 : DmaSems sig S16) (arg7 : DmaSems sig S16) (arg8 : DmaSems sig S16)

/-- The printed body up to the last copy of the reduction phase, followed by `K` at the device and the words the
text has computed. -/
def printedHead {β : Type} (K : Dev nD → BitVec 32 → BitVec 32 → Prog (TpuEff nD τ sig (Elt F) Λ₀ .tc) β) :
    Prog (TpuEff nD τ sig (Elt F) Λ₀ .tc) β := do
  let ⟨d0, v2, v4, v5, v32⟩ : Σ' (d0 : Dev nD) (v2 : BitVec 32) (v4 : BitVec 32) (v5 : Sems sig S_), BitVec 32 ← k0_part1 arg0 harg0 arg1 harg1 arg2 harg2 arg3 harg3 arg4 harg4 arg5 arg6 arg7 arg8
  let ⟨v60, v61, v62, v63, v64⟩ : Σ' (v60 : BitVec 32) (v61 : BitVec 32) (v62 : BitVec 1) (v63 : BitVec 1), BitVec 1 ← k0_part2 arg0 harg0 arg1 harg1 arg2 harg2 arg3 harg3 arg4 harg4 arg5 arg6 arg7 arg8 d0 v2 v5 v32
  let v97 : BitVec 32 ← k0_part3 arg0 harg0 arg1 harg1 arg2 harg2 arg3 harg3 arg4 harg4 arg5 arg6 arg7 arg8 d0 v2 v5 v60 v61 v62 v63 v64
  let ⟨v125, v126, v127, v128, v129⟩ : Σ' (v125 : BitVec 32) (v126 : BitVec 32) (v127 : BitVec 1) (v128 : BitVec 1), BitVec 1 ← k0_part4 arg0 harg0 arg1 harg1 arg2 harg2 arg3 harg3 arg4 harg4 arg5 arg6 arg7 arg8 d0 v2 v5 v97
  let v162 : BitVec 32 ← k0_part5 arg0 harg0 arg1 harg1 arg2 harg2 arg3 harg3 arg4 harg4 arg5 arg6 arg7 arg8 d0 v2 v5 v125 v126 v127 v128 v129
  let ⟨v190, v191, v192, v193, v194⟩ : Σ' (v190 : BitVec 32) (v191 : BitVec 32) (v192 : BitVec 1) (v193 : BitVec 1), BitVec 1 ← k0_part6 arg0 harg0 arg1 harg1 arg2 harg2 arg3 harg3 arg4 harg4 arg5 arg6 arg7 arg8 d0 v2 v5 v162
  k0_part7 arg0 harg0 arg1 harg1 arg2 harg2 arg3 harg3 arg4 harg4 arg5 arg6 arg7 arg8 d0 v2 v5 v190 v191 v192 v193 v194
  let ⟨v263, v264, v265, v266, c0_i32_171⟩ : Σ' (v263 : BitVec 32) (v264 : BitVec 32) (v265 : BitVec 1) (v266 : BitVec 1), BitVec 32 ← k0_part8 arg0 harg0 arg1 harg1 arg2 harg2 arg3 harg3 arg4 harg4 arg5 arg6 arg7 arg8 d0 v2
  let ⟨v301, v303, v307⟩ : Σ' (v301 : BitVec 32) (v303 : BitVec 32), FVec F S64x512 .bf16 ← k0_part9 arg0 harg0 arg1 harg1 arg2 harg2 arg3 harg3 arg4 harg4 arg5 arg6 arg7 arg8 d0 v2 v263 v264 v265 v266 c0_i32_171
  k0_part10 arg0 harg0 arg1 harg1 arg2 harg2 arg3 harg3 arg4 harg4 arg5 arg6 arg7 arg8 d0 v2 v301 v303 v307
  let ⟨v381, c16_i32_226, v382⟩ : Σ' (v381 : BitVec 32) (c16_i32_226 : BitVec 32), BitVec 1 ← k0_part11 arg0 harg0 arg1 harg1 arg2 harg2 arg3 harg3 arg4 harg4 arg5 arg6 arg7 arg8 d0 v2
  let v421 : BitVec 32 ← k0_part12 arg0 harg0 arg1 harg1 arg2 harg2 arg3 harg3 arg4 harg4 arg5 arg6 arg7 arg8 d0 v2 v381 c16_i32_226 v382
  let ⟨v451, v461⟩ : Σ' (v451 : BitVec 32), FVec F S64x512 .bf16 ← k0_part13 arg0 harg0 arg1 harg1 arg2 harg2 arg3 harg3 arg4 harg4 arg5 arg6 arg7 arg8 d0 v2 v421
  k0_part14 arg0 harg0 arg1 harg1 arg2 harg2 arg3 harg3 arg4 harg4 arg5 arg6 arg7 arg8 d0 v2 v451 v461
  let ⟨v533, v534, v535⟩ : Σ' (v533 : BitVec 32) (v534 : BitVec 32), BitVec 1 ← k0_part15 arg0 harg0 arg1 harg1 arg2 harg2 arg3 harg3 arg4 harg4 arg5 arg6 arg7 arg8 d0 v2
  let ⟨v571, v573⟩ : Σ' (v571 : BitVec 32), BitVec 32 ← k0_part16 arg0 harg0 arg1 harg1 arg2 harg2 arg3 harg3 arg4 harg4 arg5 arg6 arg7 arg8 d0 v2 v533 v534 v535
  k0_part17 arg0 harg0 arg1 harg1 arg2 harg2 arg3 harg3 arg4 harg4 arg5 arg6 arg7 arg8 d0 v2 v571 v573
  k0_part18 arg0 harg0 arg1 harg1 arg2 harg2 arg3 harg3 arg4 harg4 arg5 arg6 arg7 arg8 d0 v2 v4
  K d0 v2 v4

/-- The loops up to the end of the reduction phase's copies, followed by `K` at the device. -/
def loopsHead {β : Type} (K : Dev nD → Prog (TpuEff nD τ sig (Elt F) Λ₀ .tc) β) : Prog (TpuEff nD τ sig (Elt F) Λ₀ .tc) β := do
  let d0 : Dev nD ← Prog.lift .deviceId
  each sigStep (sigDevs d0)
  semWaitWord (SemArray.scalar (sig.barrier 0 rfl) : Sems sig S_).sem 15#32
  each (rsStep arg0 arg2 harg2 arg4 harg4 arg5 arg6 d0) (offs.zip (rsDevs d0))
  K d0

/-- The word the text computes for the device. -/
abbrev myWord (d0 : Dev nD) : BitVec 32 := Scalar.remsi (Scalar.divsi (Dev.word d0) 1#32) 16#32

/-- The loops after the reduction phase's copies. -/
def loopsTail (d0 : Dev nD) : Prog (TpuEff nD τ sig (Elt F) Λ₀ .tc) PUnit := do
  accInit arg0 arg3 d0
  each (accStep arg3 arg4 harg4 arg6 d0) offs
  epiStep arg1 harg1 arg3 d0
  each (agStep arg1 harg1 arg7 arg8 d0) (offs.zip (agDevs d0))
  each (agWait arg1 harg1 arg8 d0) offs
  each (rsDone arg2 harg2 arg4 harg4 arg5 d0) offs
  each (agDone arg1 harg1 arg7 d0) offs

set_option maxHeartbeats 0 in
set_option maxRecDepth 65536 in
/-- The printed first half is the loops' first half. -/
theorem head_eq {β γ : Type} (K : Dev nD → BitVec 32 → BitVec 32 → Prog (TpuEff nD τ sig (Elt F) Λ₀ .tc) β) (f : β → Prog (TpuEff nD τ sig (Elt F) Λ₀ .tc) γ) :
    printedHead arg0 harg0 arg1 harg1 arg2 harg2 arg3 harg3 arg4 harg4 arg5 arg6 arg7 arg8 K >>= f =
      loopsHead arg0 arg2 harg2 arg4 harg4 arg5 arg6 (fun d0 => K d0 (myWord d0) (Scalar.muli (myWord d0) 64#32) >>= f) := rfl

/-- The printed body from the accumulator's first store up to its last part's end. -/
def printedTail (d0 : Dev nD) (v2 v4 : BitVec 32) : Prog (TpuEff nD τ sig (Elt F) Λ₀ .tc) (Dev nD) := do
  let ⟨v685, c16_i32_383⟩ : Σ' (v685 : BitVec 32), BitVec 32 ← k0_part19 arg0 harg0 arg1 harg1 arg2 harg2 arg3 harg3 arg4 harg4 arg5 arg6 arg7 arg8 d0 v2
  let ⟨v715, v716, v717, v718, v719⟩ : Σ' (v715 : BitVec 32) (v716 : BitVec 32) (v717 : BitVec 1) (v718 : BitVec 1), BitVec 1 ← k0_part20 arg0 harg0 arg1 harg1 arg2 harg2 arg3 harg3 arg4 harg4 arg5 arg6 arg7 arg8 d0 v2 v685 c16_i32_383
  let v751 : BitVec 32 ← k0_part21 arg0 harg0 arg1 harg1 arg2 harg2 arg3 harg3 arg4 harg4 arg5 arg6 arg7 arg8 d0 v2 v715 v716 v717 v718 v719
  let ⟨v779, v788⟩ : Σ' (v779 : BitVec 32), Vec F S64x512 .f32 ← k0_part22 arg0 harg0 arg1 harg1 arg2 harg2 arg3 harg3 arg4 harg4 arg5 arg6 arg7 arg8 d0 v2 v751
  let v821 : FVec F S64x512 .f32 ← k0_part23 arg0 harg0 arg1 harg1 arg2 harg2 arg3 harg3 arg4 harg4 arg5 arg6 arg7 arg8 d0 v2 v779 v788
  let ⟨v855, v856, c0_i32_500⟩ : Σ' (v855 : BitVec 32) (v856 : BitVec 32), BitVec 32 ← k0_part24 arg0 harg0 arg1 harg1 arg2 harg2 arg3 harg3 arg4 harg4 arg5 arg6 arg7 arg8 d0 v2 v821
  let ⟨v891, v892⟩ : Σ' (v891 : BitVec 32), BitVec 32 ← k0_part25 arg0 harg0 arg1 harg1 arg2 harg2 arg3 harg3 arg4 harg4 arg5 arg6 arg7 arg8 d0 v2 v855 v856 c0_i32_500
  let v919 : BitVec 32 ← k0_part26 arg0 harg0 arg1 harg1 arg2 harg2 arg3 harg3 arg4 harg4 arg5 arg6 arg7 arg8 d0 v2 v891 v892
  let ⟨v956, v960⟩ : Σ' (v956 : Vec F S64x512 .f32), FVec F S64x512 .f32 ← k0_part27 arg0 harg0 arg1 harg1 arg2 harg2 arg3 harg3 arg4 harg4 arg5 arg6 arg7 arg8 d0 v2 v919
  let ⟨v993, c16_i32_592, c0_i32_593⟩ : Σ' (v993 : BitVec 32) (c16_i32_592 : BitVec 32), BitVec 32 ← k0_part28 arg0 harg0 arg1 harg1 arg2 harg2 arg3 harg3 arg4 harg4 arg5 arg6 arg7 arg8 d0 v2 v956 v960
  let ⟨v1023, v1024, v1025, v1028⟩ : Σ' (v1023 : BitVec 32) (v1024 : BitVec 32) (v1025 : BitVec 1), BitVec 1 ← k0_part29 arg0 harg0 arg1 harg1 arg2 harg2 arg3 harg3 arg4 harg4 arg5 arg6 arg7 arg8 d0 v2 v993 c16_i32_592 c0_i32_593
  let v1059 : BitVec 32 ← k0_part30 arg0 harg0 arg1 harg1 arg2 harg2 arg3 harg3 arg4 harg4 arg5 arg6 arg7 arg8 d0 v2 v1023 v1024 v1025 v1028
  let v1100 : BitVec 32 ← k0_part31 arg0 harg0 arg1 harg1 arg2 harg2 arg3 harg3 arg4 harg4 arg5 arg6 arg7 arg8 d0 v2 v4 v1059
  let v1137 : BitVec 32 ← k0_part32 arg0 harg0 arg1 harg1 arg2 harg2 arg3 harg3 arg4 harg4 arg5 arg6 arg7 arg8 d0 v2 v1100
  let ⟨v1167, v1168, v1173⟩ : Σ' (v1167 : BitVec 32) (v1168 : BitVec 32), BitVec 1 ← k0_part33 arg0 harg0 arg1 harg1 arg2 harg2 arg3 harg3 arg4 harg4 arg5 arg6 arg7 arg8 d0 v2 v1137
  let ⟨v1205, v1206, v1207, v1208, v1209⟩ : Σ' (v1205 : BitVec 32) (v1206 : BitVec 32) (v1207 : BitVec 1) (v1208 : BitVec 1), BitVec 1 ← k0_part34 arg0 harg0 arg1 harg1 arg2 harg2 arg3 harg3 arg4 harg4 arg5 arg6 arg7 arg8 d0 v2 v1167 v1168 v1173
  let ⟨v1243, v1244, v1245, v1246⟩ : Σ' (v1243 : BitVec 32) (v1244 : BitVec 32) (v1245 : BitVec 1), BitVec 1 ← k0_part35 arg0 harg0 arg1 harg1 arg2 harg2 arg3 harg3 arg4 harg4 arg5 arg6 arg7 arg8 d0 v2 v1205 v1206 v1207 v1208 v1209
  let ⟨v1281, v1282, v1283⟩ : Σ' (v1281 : BitVec 32) (v1282 : BitVec 32), BitVec 1 ← k0_part36 arg0 harg0 arg1 harg1 arg2 harg2 arg3 harg3 arg4 harg4 arg5 arg6 arg7 arg8 d0 v2 v1243 v1244 v1245 v1246
  let ⟨v1319, v1320⟩ : Σ' (v1319 : BitVec 32), BitVec 32 ← k0_part37 arg0 harg0 arg1 harg1 arg2 harg2 arg3 harg3 arg4 harg4 arg5 arg6 arg7 arg8 d0 v2 v1281 v1282 v1283
  let ⟨v1355, c16_i32_806, v1356, c1_i32_808⟩ : Σ' (v1355 : BitVec 32) (c16_i32_806 : BitVec 32) (v1356 : BitVec 1), BitVec 32 ← k0_part38 arg0 harg0 arg1 harg1 arg2 harg2 arg3 harg3 arg4 harg4 arg5 arg6 arg7 arg8 d0 v2 v1319 v1320
  let ⟨v1393, c16_i32_829⟩ : Σ' (v1393 : BitVec 32), BitVec 32 ← k0_part39 arg0 harg0 arg1 harg1 arg2 harg2 arg3 harg3 arg4 harg4 arg5 arg6 arg7 arg8 d0 v2 v1355 c16_i32_806 v1356 c1_i32_808
  k0_part40 arg0 harg0 arg1 harg1 arg2 harg2 arg3 harg3 arg4 harg4 arg5 arg6 arg7 arg8 d0 v2 v1393 c16_i32_829
  k0_part41 arg0 harg0 arg1 harg1 arg2 harg2 arg3 harg3 arg4 harg4 arg5 arg6 arg7 arg8 d0 v2
  let v1501 : BitVec 32 ← k0_part42 arg0 harg0 arg1 harg1 arg2 harg2 arg3 harg3 arg4 harg4 arg5 arg6 arg7 arg8 d0 v2
  let ⟨v1536, c64_i32_919⟩ : Σ' (v1536 : BitVec 32), BitVec 32 ← k0_part43 arg0 harg0 arg1 harg1 arg2 harg2 arg3 harg3 arg4 harg4 arg5 arg6 arg7 arg8 d0 v2 v1501
  let ⟨v1566, v1567, v1568, v1571⟩ : Σ' (v1566 : BitVec 32) (v1567 : BitVec 32) (v1568 : BitVec 1), BitVec 1 ← k0_part44 arg0 harg0 arg1 harg1 arg2 harg2 arg3 harg3 arg4 harg4 arg5 arg6 arg7 arg8 d0 v2 v1536 c64_i32_919
  let ⟨v1604, v1605, v1606, c0_i32_965⟩ : Σ' (v1604 : BitVec 32) (v1605 : BitVec 32) (v1606 : BitVec 1), BitVec 32 ← k0_part45 arg0 harg0 arg1 harg1 arg2 harg2 arg3 harg3 arg4 harg4 arg5 arg6 arg7 arg8 d0 v2 v1566 v1567 v1568 v1571
  let ⟨v1640, v1642⟩ : Σ' (v1640 : BitVec 32), BitVec 32 ← k0_part46 arg0 harg0 arg1 harg1 arg2 harg2 arg3 harg3 arg4 harg4 arg5 arg6 arg7 arg8 d0 v2 v1604 v1605 v1606 c0_i32_965
  k0_part47 arg0 harg0 arg1 harg1 arg2 harg2 arg3 harg3 arg4 harg4 arg5 arg6 arg7 arg8 d0 v1640 v1642
  k0_part48 arg0 harg0 arg1 harg1 arg2 harg2 arg3 harg3 arg4 harg4 arg5 arg6 arg7 arg8 d0
  k0_part49 arg0 harg0 arg1 harg1 arg2 harg2 arg3 harg3 arg4 harg4 arg5 arg6 arg7 arg8 d0
  k0_part50 arg0 harg0 arg1 harg1 arg2 harg2 arg3 harg3 arg4 harg4 arg5 arg6 arg7 arg8 d0
  let v1766 : DmaSems sig S1 := arg7.slice (Rect.unit (s := S16) (k0_off2 d0 9#32) S1.size (k0_off2_inb d0 8))
  let v1767 : DmaSems sig S_ := v1766.squeeze S_ squeezes_S1_S_
  let v1768 : Memref sig .tc .vmem S64x512 .bf16 := arg1.slice (Rect.unit (s := S1024x512) (k0_off10 d0) S64x512.size (k0_off10_inb d0)) (fun _ => rfl)
  let v1769 : Memref sig .tc .vmem S64x512 .bf16 := arg1.slice (Rect.unit (s := S1024x512) (k0_off10 d0) S64x512.size (k0_off10_inb d0)) (fun _ => rfl)
  Prog.lift (.waitDma2 v1767.sem v1769 v1768 (harg1.wordExact_slice rfl _ (k0_off10_wordsbf16 d0)) (harg1.wordExact_slice rfl _ (k0_off10_wordsbf16 d0)))
  pure d0

/-- The printed body's last waits. -/
def printedEnd (d0 : Dev nD) : Prog (TpuEff nD τ sig (Elt F) Λ₀ .tc) PUnit := do
  let v1772 : Memref sig .tc .vmem S64x512 .bf16 := arg1.slice (Rect.unit (s := S1024x512) (k0_off10 d0) S64x512.size (k0_off10_inb d0)) (fun _ => rfl)
  let v1773 : Memref sig .tc .vmem S64x512 .bf16 := arg1.slice (Rect.unit (s := S1024x512) (k0_off10 d0) S64x512.size (k0_off10_inb d0)) (fun _ => rfl)
  let v1770 : DmaSems sig S1 := arg7.slice (Rect.unit (s := S16) (k0_off2 d0 10#32) S1.size (k0_off2_inb d0 9))
  let v1771 : DmaSems sig S_ := v1770.squeeze S_ squeezes_S1_S_
  Prog.lift (.waitDma2 v1771.sem v1773 v1772 (harg1.wordExact_slice rfl _ (k0_off10_wordsbf16 d0)) (harg1.wordExact_slice rfl _ (k0_off10_wordsbf16 d0)))
  let v1774 : DmaSems sig S1 := arg7.slice (Rect.unit (s := S16) (k0_off2 d0 11#32) S1.size (k0_off2_inb d0 10))
  let v1775 : DmaSems sig S_ := v1774.squeeze S_ squeezes_S1_S_
  let v1776 : Memref sig .tc .vmem S64x512 .bf16 := arg1.slice (Rect.unit (s := S1024x512) (k0_off10 d0) S64x512.size (k0_off10_inb d0)) (fun _ => rfl)
  let v1777 : Memref sig .tc .vmem S64x512 .bf16 := arg1.slice (Rect.unit (s := S1024x512) (k0_off10 d0) S64x512.size (k0_off10_inb d0)) (fun _ => rfl)
  Prog.lift (.waitDma2 v1775.sem v1777 v1776 (harg1.wordExact_slice rfl _ (k0_off10_wordsbf16 d0)) (harg1.wordExact_slice rfl _ (k0_off10_wordsbf16 d0)))
  let v1778 : DmaSems sig S1 := arg7.slice (Rect.unit (s := S16) (k0_off2 d0 12#32) S1.size (k0_off2_inb d0 11))
  let v1779 : DmaSems sig S_ := v1778.squeeze S_ squeezes_S1_S_
  let v1780 : Memref sig .tc .vmem S64x512 .bf16 := arg1.slice (Rect.unit (s := S1024x512) (k0_off10 d0) S64x512.size (k0_off10_inb d0)) (fun _ => rfl)
  let v1781 : Memref sig .tc .vmem S64x512 .bf16 := arg1.slice (Rect.unit (s := S1024x512) (k0_off10 d0) S64x512.size (k0_off10_inb d0)) (fun _ => rfl)
  Prog.lift (.waitDma2 v1779.sem v1781 v1780 (harg1.wordExact_slice rfl _ (k0_off10_wordsbf16 d0)) (harg1.wordExact_slice rfl _ (k0_off10_wordsbf16 d0)))
  let v1782 : DmaSems sig S1 := arg7.slice (Rect.unit (s := S16) (k0_off2 d0 13#32) S1.size (k0_off2_inb d0 12))
  let v1783 : DmaSems sig S_ := v1782.squeeze S_ squeezes_S1_S_
  let v1784 : Memref sig .tc .vmem S64x512 .bf16 := arg1.slice (Rect.unit (s := S1024x512) (k0_off10 d0) S64x512.size (k0_off10_inb d0)) (fun _ => rfl)
  let v1785 : Memref sig .tc .vmem S64x512 .bf16 := arg1.slice (Rect.unit (s := S1024x512) (k0_off10 d0) S64x512.size (k0_off10_inb d0)) (fun _ => rfl)
  Prog.lift (.waitDma2 v1783.sem v1785 v1784 (harg1.wordExact_slice rfl _ (k0_off10_wordsbf16 d0)) (harg1.wordExact_slice rfl _ (k0_off10_wordsbf16 d0)))
  let v1786 : DmaSems sig S1 := arg7.slice (Rect.unit (s := S16) (k0_off2 d0 14#32) S1.size (k0_off2_inb d0 13))
  let v1787 : DmaSems sig S_ := v1786.squeeze S_ squeezes_S1_S_
  let v1788 : Memref sig .tc .vmem S64x512 .bf16 := arg1.slice (Rect.unit (s := S1024x512) (k0_off10 d0) S64x512.size (k0_off10_inb d0)) (fun _ => rfl)
  let v1789 : Memref sig .tc .vmem S64x512 .bf16 := arg1.slice (Rect.unit (s := S1024x512) (k0_off10 d0) S64x512.size (k0_off10_inb d0)) (fun _ => rfl)
  Prog.lift (.waitDma2 v1787.sem v1789 v1788 (harg1.wordExact_slice rfl _ (k0_off10_wordsbf16 d0)) (harg1.wordExact_slice rfl _ (k0_off10_wordsbf16 d0)))
  let v1790 : DmaSems sig S1 := arg7.slice (Rect.unit (s := S16) (k0_off2 d0 15#32) S1.size (k0_off2_inb d0 14))
  let v1791 : DmaSems sig S_ := v1790.squeeze S_ squeezes_S1_S_
  let v1792 : Memref sig .tc .vmem S64x512 .bf16 := arg1.slice (Rect.unit (s := S1024x512) (k0_off10 d0) S64x512.size (k0_off10_inb d0)) (fun _ => rfl)
  let v1793 : Memref sig .tc .vmem S64x512 .bf16 := arg1.slice (Rect.unit (s := S1024x512) (k0_off10 d0) S64x512.size (k0_off10_inb d0)) (fun _ => rfl)
  Prog.lift (.waitDma2 v1791.sem v1793 v1792 (harg1.wordExact_slice rfl _ (k0_off10_wordsbf16 d0)) (harg1.wordExact_slice rfl _ (k0_off10_wordsbf16 d0)))
  pure ⟨⟩

set_option maxHeartbeats 0 in
set_option maxRecDepth 65536 in
/-- The printed second half is the loops' second half. -/
theorem tail_eq (d0 : Dev nD) (v2 v4 : BitVec 32) :
    (printedTail (F := F) arg0 harg0 arg1 harg1 arg2 harg2 arg3 harg3 arg4 harg4 arg5 arg6 arg7 arg8 d0 v2 v4 >>= printedEnd arg1 harg1 arg7) = loopsTail arg0 arg1 harg1 arg2 harg2 arg3 arg4 harg4 arg5 arg6 arg7 arg8 d0 := rfl

/-- The printed body is its first half, its second half and its last waits. -/
theorem printed_eq :
    cc0_body (F := F) arg0 harg0 arg1 harg1 arg2 harg2 arg3 harg3 arg4 harg4 arg5 arg6 arg7 arg8 = printedHead arg0 harg0 arg1 harg1 arg2 harg2 arg3 harg3 arg4 harg4 arg5 arg6 arg7 arg8 (printedTail arg0 harg0 arg1 harg1 arg2 harg2 arg3 harg3 arg4 harg4 arg5 arg6 arg7 arg8) >>= printedEnd arg1 harg1 arg7 := rfl

end Cut

/-- The printed body is the loops. -/
theorem body_eq : cc0_body (F := F) = body (F := F) := by
  funext arg0 harg0 arg1 harg1 arg2 harg2 arg3 harg3 arg4 harg4 arg5 arg6 arg7 arg8
  refine (printed_eq arg0 harg0 arg1 harg1 arg2 harg2 arg3 harg3 arg4 harg4 arg5 arg6 arg7 arg8).trans ((head_eq arg0 harg0 arg1 harg1 arg2 harg2 arg3 harg3 arg4 harg4 arg5 arg6 arg7 arg8 _ _).trans ?_)
  simp only [tail_eq]
  rfl

end Cert.KernelIdeal.Loops
-- ==== Proof.Proto.lean ====
module

public import proofs.«01_k».proof.Proof.Loops
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.ValueIdxCore
public import Idealize.ShloMosaic.Lib.ValueLayout

/-! # The protocol of the all-reduce: peers, memrefs, cells, contents, schedule

Every device has one barrier cell and four groups of sixteen DMA cells. All of them go through one round. -/

@[expose] public section

noncomputable section

namespace Cert.KernelIdeal.Proto

open Cert.KernelIdeal Cert.KernelIdeal.Gen Cert.KernelIdeal.Loops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

/-! ## The resource algebra -/

/-- The protocol's round state: duties are named by the fifteen offsets. -/
abbrev UB : Type := URounds (GSem nD τ sig) (Fin 15)
/-- The pipeline's round state and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Peers -/

set_option backward.proofsInPublic true in
/-- The peer at distance `1 + r` in front. -/
def pf (c : Dev nD) (r : Fin 15) : Dev nD := ⟨(c.val + 1 + r.val) % 16, Nat.mod_lt _ (by decide)⟩
set_option backward.proofsInPublic true in
/-- The peer at distance `1 + r` behind. -/
def bk (c : Dev nD) (r : Fin 15) : Dev nD := ⟨(c.val + 15 - r.val) % 16, Nat.mod_lt _ (by decide)⟩

theorem bk_pf (c : Dev nD) (r : Fin 15) : bk (pf c r) r = c := by revert c r; decide +kernel
theorem pf_bk (c : Dev nD) (r : Fin 15) : pf (bk c r) r = c := by revert c r; decide +kernel
theorem bk_rev (c : Dev nD) (r : Fin 15) : bk c r.rev = pf c r := by revert c r; decide +kernel
theorem pf_ne (c : Dev nD) (r : Fin 15) : pf c r ≠ c := by revert c r; decide +kernel
theorem bk_ne (c : Dev nD) (r : Fin 15) : bk c r ≠ c := by revert c r; decide +kernel
theorem pf_inj (c : Dev nD) : Function.Injective (pf c) := by revert c; decide +kernel
theorem bk_inj (c : Dev nD) : Function.Injective (bk c) := by revert c; decide +kernel
theorem univ_pf (c : Dev nD) : (Finset.univ : Finset (Dev nD)) = insert c (Finset.univ.image (pf c)) := by revert c; decide +kernel
theorem univ_bk (c : Dev nD) : (Finset.univ : Finset (Dev nD)) = insert c (Finset.univ.image (bk c)) := by revert c; decide +kernel

theorem sigDevs_eq (c : Dev nD) : sigDevs c = offs.map (pf c) := by revert c; decide +kernel
theorem rsDevs_eq (c : Dev nD) : offs.zip (rsDevs c) = offs.map fun r => (r, pf c r) := by revert c; decide +kernel
theorem agDevs_eq (c : Dev nD) : offs.zip (agDevs c) = offs.map fun r => (r, pf c r) := by revert c; decide +kernel

/-! ## Offsets in closed form -/

/-- The offset of row block `d`. -/
abbrev rowOff (d : Dev nD) : Fin 2 → ℕ := ![64 * d.val, 0]
/-- The offset of slot `d`. -/
abbrev slotOff (d : Dev nD) : Fin 3 → ℕ := ![d.val, 0, 0]
/-- The offset of semaphore `d`. -/
abbrev semOff (d : Dev nD) : Fin 1 → ℕ := ![d.val]

theorem row_inb (d : Dev nD) : ∀ i, rowOff d i + S64x512.size i ≤ S1024x512.size i := by revert d; decide +kernel
theorem slot_inb (d : Dev nD) : ∀ i, slotOff d i + S1x64x512.size i ≤ S16x64x512.size i := by revert d; decide +kernel
theorem sem_inb (d : Dev nD) : ∀ i, semOff d i + S1.size i ≤ S16.size i := by revert d; decide +kernel

theorem off1_eq (c : Dev nD) (r : Fin 15) : k0_off1 c (wd r) = rowOff (pf c r) := by revert c r; decide +kernel
theorem off2_eq (c : Dev nD) (r : Fin 15) : k0_off2 c (wd r) = semOff (pf c r) := by revert c r; decide +kernel
theorem off3_eq (c : Dev nD) : k0_off3 c = semOff c := by revert c; decide +kernel
theorem off4_eq (c : Dev nD) : k0_off4 c = slotOff c := by revert c; decide +kernel
theorem off5_eq (c : Dev nD) (r : Fin 15) : k0_off5 c (wd r) = rowOff (pf c r) := by revert c r; decide +kernel
theorem off6_eq (c : Dev nD) : k0_off6 c = rowOff c := by revert c; decide +kernel
theorem off7_eq (c : Dev nD) (r : Fin 15) : k0_off7 c (wd r) = semOff (bk c r) := by revert c r; decide +kernel
theorem off8_eq (c : Dev nD) (r : Fin 15) : k0_off8 c (wd r) = slotOff (bk c r) := by revert c r; decide +kernel
theorem off9_eq (c : Dev nD) (r : Fin 15) : k0_off9 c (wd r) = slotOff (bk c r) := by revert c r; decide +kernel
theorem off10_eq (c : Dev nD) : k0_off10 c = rowOff c := by revert c; decide +kernel
theorem off11_eq (c : Dev nD) (r : Fin 15) : k0_off11 c (wd r) = rowOff (bk c r) := by revert c r; decide +kernel

/-! ## The memrefs and cells -/

abbrev xM : Memref sig .tc .vmem S1024x512 .f32 := Memref.whole cc0_stg0_0
abbrev oM : Memref sig .tc .vmem S1024x512 .bf16 := Memref.whole cc0_stg1_0
abbrev bM : Memref sig .tc .vmem S1024x512 .bf16 := Memref.whole cc0_scratch0
abbrev aM : Memref sig .tc .vmem S64x512 .f32 := Memref.whole cc0_scratch1
abbrev rM : Memref sig .tc .vmem S16x64x512 .bf16 := Memref.whole cc0_scratch2

/-- Row block `d` of the staged argument, of the result, of the send buffer; slot `d` of the receive buffer. -/
abbrev xRow (d : Dev nD) : Memref sig .tc .vmem S64x512 .f32 := rowsAt xM (rowOff d) (row_inb d)
abbrev oRow (d : Dev nD) : Memref sig .tc .vmem S64x512 .bf16 := rowsAt oM (rowOff d) (row_inb d)
abbrev bRow (d : Dev nD) : Memref sig .tc .vmem S64x512 .bf16 := rowsAt bM (rowOff d) (row_inb d)
abbrev rSlot (d : Dev nD) : Memref sig .tc .vmem S64x512 .bf16 := slotAt rM (slotOff d) (slot_inb d)

/-- The barrier semaphore of the kernel's collective id. -/
abbrev barS : Sem sig := (SemArray.scalar (sig.barrier 0 rfl) : Sems sig S_).sem
/-- The four semaphore arrays: sends and arrivals of the reduction, sends and arrivals of the gathering. -/
abbrev arr : Fin 4 → DmaSems sig S16 := ![cc0_scratch3, cc0_scratch4, cc0_scratch5, cc0_scratch6]
/-- Semaphore `j` of array `i`. -/
abbrev dsem (i : Fin 4) (j : Dev nD) : DmaSem sig := semAt (arr i) (semOff j) (sem_inb j)

/-- A device's cells: the barrier's, and the DMA cell `(i, j)`. -/
abbrev Cel : Type := Option (Fin 4 × Dev nD)
/-- A DMA cell's semaphore. -/
abbrev osem (k : Fin 4 × Dev nD) : SemLoc sig := .dma (dsem k.1 k.2)
/-- A cell's semaphore. -/
def csem : Cel → SemLoc sig
  | none => .reg barS
  | some k => osem k
/-- Cell `k` of device `c`. -/
abbrev kcell (c : Dev nD) (k : Cel) : GSem nD τ sig := ((c : Thread nD τ), csem k)

theorem dsem_val (i : Fin 4) (j : Dev nD) : (dsem i j).val = 2 + 16 * i.val + j.val := by revert i j; decide +kernel

/-- Which cell a semaphore is. -/
def kOf : SemLoc sig → Option Cel
  | .reg s => if s = barS then some none else none
  | .dma q => if h : 2 ≤ q.val ∧ q.val < 66 then
      some (some (⟨(q.val - 2) / 16, by omega⟩, ⟨(q.val - 2) % 16, Nat.mod_lt _ (by decide)⟩)) else none

theorem kOf_csem (k : Cel) : kOf (csem k) = some k := by
  rcases k with _ | ⟨i, j⟩
  · show (if barS = barS then some none else none) = _
    exact if_pos rfl
  · have h := dsem_val i j
    have hi := i.isLt
    have hj : j.val < 16 := j.isLt
    show (if h : 2 ≤ (dsem i j).val ∧ (dsem i j).val < 66 then _ else _) = _
    rw [dif_pos ⟨by omega, by omega⟩]
    congr 3 <;> ext <;> simp only [h] <;> omega

theorem csem_inj : Function.Injective csem := fun a b h => by
  have := congrArg kOf h
  rw [kOf_csem, kOf_csem] at this
  exact Option.some.inj this

theorem kcell_inj {c c' : Dev nD} {k k' : Cel} (h : kcell c k = kcell c' k') : c = c' ∧ k = k' :=
  ⟨congrArg (fun g : GSem nD τ sig => g.1.1) h, csem_inj (congrArg Prod.snd h)⟩

/-- The units of one copy of a 64 by 512 block. -/
abbrev N : ℕ := (rSlot 0).view.dmaCredit
theorem N_pos : 0 < N := View.dmaCredit_pos _ (by decide)

/-! ## Contents -/

/-- The staged argument of device `c`. -/
def xstg (c : Dev nD) : (cc0_stg0_0 : Ref sig .tc).ty.Contents (Elt F) :=
  (win0_0.blk t0_0).view.read (Elt F) ((s₀ m ρ).mem ((c : Thread nD τ).loc main_arg0))

/-- Block `d` of device `c`'s argument. -/
def blkX (c d : Dev nD) : Vec F S64x512 .f32 := (xRow d).view.read (Elt F) (xstg m ρ c)
/-- What device `c` sends to device `d`: its block `d`. -/
def sendX (c d : Dev nD) : FVec F S64x512 .bf16 := k0_pay1 (blkX m ρ c d)
/-- One step of the accumulation: a block widened and added. -/
def accAdd (v : FVec F S64x512 .f32) (y : FVec F S64x512 .bf16) : FVec F S64x512 .f32 :=
  shapeCast S64x512 (addf v (extf .f32 y bitsLt_bf16_f32)) shapeCasts_S64x512_S64x512
/-- The accumulator after the arrivals of `l` on top of `A`. -/
def accL (c : Dev nD) (A : FVec F S64x512 .f32) (l : List (Fin 15)) : FVec F S64x512 .f32 :=
  l.foldl (fun A r => accAdd A (sendX m ρ (bk c r) c)) A
/-- The finished accumulator: device `c`'s own block and every arrival, in order. -/
def accF (c : Dev nD) : FVec F S64x512 .f32 := accL m ρ c (k0_pay17 (blkX m ρ c c)) offs
/-- The block of the result device `c` computes. -/
def outB (c : Dev nD) : FVec F S64x512 .bf16 := k0_pay35 (accF m ρ c)

set_option backward.proofsInPublic true in
/-- The result: block `d` is what device `d` computes. The same on every device. -/
def outF : (cc0_stg1_0 : Ref sig .tc).ty.Contents (Elt F) := fun (i : S1024x512.Idx) =>
  outB m ρ (⟨(i 0).val / 64, by have := (i 0).isLt; change _ < 1024 at this; show _ < 16; omega⟩ : Dev nD)
    (ix2 (⟨(i 0).val % 64, Nat.mod_lt _ (by decide)⟩ : Fin 64) (i 1))
/-- The receive buffer of device `c`: slot `s` is what device `s` sends it. -/
def rsF (c : Dev nD) : (cc0_scratch2 : Ref sig .tc).ty.Contents (Elt F) := fun (i : S16x64x512.Idx) =>
  sendX m ρ (i 0 : Dev nD) c (ix2 (i 1 : Fin 64) (i 2 : Fin 512))

/-- Where a block at an offset puts an element: the offset is added. -/
theorem unit_emb_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

omit [FloatOps F] in
/-- Row `a` of block `d` is row `64 d + a`. -/
theorem row_emb (d : Dev nD) (x : S64x512.Idx) : ((oRow d).view.emb x 0 : Fin _).val = 64 * d.val + (x 0).val ∧ (oRow d).view.emb x 1 = x 1 :=
  ⟨unit_emb_val (s := S1024x512) (rowOff d) S64x512.size (row_inb d) x 0,
    Fin.ext ((unit_emb_val (s := S1024x512) (rowOff d) S64x512.size (row_inb d) x 1).trans (Nat.zero_add _))⟩

theorem outF_row (d : Dev nD) : (oRow d).view.read (Elt F) (outF m ρ) = outB m ρ d := by
  funext x
  show outF m ρ ((oRow d).view.emb x) = _
  obtain ⟨h0, h1⟩ := row_emb d x
  have hx : (x 0).val < 64 := (x 0).isLt
  unfold outF
  have e1 : ((oRow d).view.emb x 0 : Fin _).val / 64 = d.val := by omega
  have e2 : ((oRow d).view.emb x 0 : Fin _).val % 64 = (x 0).val := by omega
  rw [show (⟨((oRow d).view.emb x 0 : Fin _).val / 64, _⟩ : Dev nD) = d from Fin.ext e1]
  refine congrArg _ ?_
  rw [eq_ix2 x]
  exact congrArg₂ ix2 (Fin.ext e2) h1

theorem rsF_slot (c d : Dev nD) : (rSlot d).view.read (Elt F) (rsF m ρ c) = sendX m ρ d c := by
  funext x
  obtain ⟨a, b, rfl⟩ : ∃ (a : Fin 64) (b : Fin 512), x = (ix2 a b : S64x512.Idx) := ⟨x 0, x 1, eq_ix2 x⟩
  show rsF m ρ c ((rSlot d).view.emb (ix2 a b)) = _
  have e : (rSlot d).view.emb (ix2 a b) = (ix3 d a b : S16x64x512.Idx) := by
    show (Rect.unit (s := S16x64x512) (slotOff d) S1x64x512.size (slot_inb d)).emb (Shape.reshapeEquiv _ (ix2 a b)) = _
    refine (congrArg _ (ValueIdx.reshapeEquiv_ix2_1ab (a := 64) (b := 512) _ a b)).trans ?_
    funext k
    fin_cases k <;> refine Fin.ext ((unit_emb_val _ _ _ _ _).trans ?_)
    · exact Nat.add_zero _
    · exact Nat.zero_add _
    · exact Nat.zero_add _
  rw [e]
  rfl

/-! ## Points-to of the blocks -/

/-- Row block `d` of device `c`'s result buffer, of its send buffer; slot `d` of its receive buffer. -/
def oP (c d : Dev nD) (q : PosShare TreeShare) (f : (cc0_stg1_0 : Ref sig .tc).ty.Contents (Elt F)) : sProp 𝕄 :=
  (oRow d).view.loc (c : Thread nD τ) ↦[(oRow d).view.set]{q} f
def bP (c d : Dev nD) (f : (cc0_scratch0 : Ref sig .tc).ty.Contents (Elt F)) : sProp 𝕄 :=
  (bRow d).view.loc (c : Thread nD τ) ↦[(bRow d).view.set]{fullShare} f
def rP (c d : Dev nD) (f : (cc0_scratch2 : Ref sig .tc).ty.Contents (Elt F)) : sProp 𝕄 :=
  (rSlot d).view.loc (c : Thread nD τ) ↦[(rSlot d).view.set]{fullShare} f

/-- The rows of block `d`. -/
abbrev rowSet (d : Dev nD) : Finset S1024x512.Idx := (Rect.unit (s := S1024x512) (rowOff d) S64x512.size (row_inb d)).set
/-- The elements of slot `d`. -/
abbrev slotSet (d : Dev nD) : Finset S16x64x512.Idx := (Rect.unit (s := S16x64x512) (slotOff d) S1x64x512.size (slot_inb d)).set

theorem rowSet_disj (d : Dev nD) (_ : d ∈ (Finset.univ : Finset (Dev nD))) (d' : Dev nD) (_ : d' ∈ (Finset.univ : Finset (Dev nD))) (h : d ≠ d') :
    Disjoint (rowSet d) (rowSet d') :=
  Rect.unit_disjoint 0 (by
    have : d.val ≠ d'.val := fun e => h (Fin.ext e)
    show 64 * d.val + 64 ≤ 64 * d'.val ∨ 64 * d'.val + 64 ≤ 64 * d.val
    omega)
theorem slotSet_disj (d : Dev nD) (_ : d ∈ (Finset.univ : Finset (Dev nD))) (d' : Dev nD) (_ : d' ∈ (Finset.univ : Finset (Dev nD))) (h : d ≠ d') :
    Disjoint (slotSet d) (slotSet d') :=
  Rect.unit_disjoint 0 (by
    have : d.val ≠ d'.val := fun e => h (Fin.ext e)
    show d.val + 1 ≤ d'.val ∨ d'.val + 1 ≤ d.val
    omega)
theorem rowSet_cover : (Finset.univ : Finset (Dev nD)).biUnion rowSet = Finset.univ := by
  refine Finset.eq_univ_iff_forall.mpr fun i => Finset.mem_biUnion.mpr ?_
  have h0 : (i 0).val < 1024 := (i 0).isLt
  have h1 : (i 1).val < 512 := (i 1).isLt
  refine ⟨(⟨(i 0).val / 64, by omega⟩ : Fin 16), Finset.mem_univ _, Rect.mem_set_unit.mpr fun a => ?_⟩
  fin_cases a
  · show 64 * ((i 0).val / 64) ≤ (i 0).val ∧ (i 0).val < 64 * ((i 0).val / 64) + 64
    omega
  · show 0 ≤ (i 1).val ∧ (i 1).val < 0 + 512
    omega
theorem slotSet_cover : (Finset.univ : Finset (Dev nD)).biUnion slotSet = Finset.univ := by
  refine Finset.eq_univ_iff_forall.mpr fun i => Finset.mem_biUnion.mpr ?_
  have h0 : (i 0).val < 16 := (i 0).isLt
  have h1 : (i 1).val < 64 := (i 1).isLt
  have h2 : (i 2).val < 512 := (i 2).isLt
  refine ⟨(⟨(i 0).val, h0⟩ : Fin 16), Finset.mem_univ _, Rect.mem_set_unit.mpr fun a => ?_⟩
  fin_cases a
  · show (i 0).val ≤ (i 0).val ∧ (i 0).val < (i 0).val + 1
    omega
  · show 0 ≤ (i 1).val ∧ (i 1).val < 0 + 64
    omega
  · show 0 ≤ (i 2).val ∧ (i 2).val < 0 + 512
    omega

theorem oRow_set (d : Dev nD) : (oRow d).view.set = rowSet d := View.set_slice_whole cc0_stg1_0 _
theorem bRow_set (d : Dev nD) : (bRow d).view.set = rowSet d := View.set_slice_whole cc0_scratch0 _
theorem rSlot_set (d : Dev nD) : (rSlot d).view.set = slotSet d :=
  (View.set_reshape _ _).trans (View.set_slice_whole cc0_scratch2 _)

omit [FloatOps F] in
/-- The result buffer is its sixteen blocks. -/
theorem o_split (c : Dev nD) (f : (cc0_stg1_0 : Ref sig .tc).ty.Contents (Elt F)) :
    (((c : Thread nD τ).loc cc0_stg1_0) ↦{fullShare} f : sProp 𝕄) = bigSep Finset.univ fun d => oP c d fullShare f := by
  have h := pointsTo_biUnion (Ix := Unit) (Name := ℕ) (U := UU) (Lvl := ℕ) (q := fullShare) (ℓ := (c : Thread nD τ).loc cc0_stg1_0) (f := f) Finset.univ rowSet rowSet_disj
  rw [rowSet_cover] at h
  exact h.trans (bigSep_congr fun d _ => by unfold oP; rw [oRow_set])
omit [FloatOps F] in
/-- The send buffer is its sixteen blocks. -/
theorem b_split (c : Dev nD) (f : (cc0_scratch0 : Ref sig .tc).ty.Contents (Elt F)) :
    (((c : Thread nD τ).loc cc0_scratch0) ↦{fullShare} f : sProp 𝕄) = bigSep Finset.univ fun d => bP c d f := by
  have h := pointsTo_biUnion (Ix := Unit) (Name := ℕ) (U := UU) (Lvl := ℕ) (q := fullShare) (ℓ := (c : Thread nD τ).loc cc0_scratch0) (f := f) Finset.univ rowSet rowSet_disj
  rw [rowSet_cover] at h
  exact h.trans (bigSep_congr fun d _ => by unfold bP; rw [bRow_set])
omit [FloatOps F] in
/-- The receive buffer is its sixteen slots. -/
theorem r_split (c : Dev nD) (f : (cc0_scratch2 : Ref sig .tc).ty.Contents (Elt F)) :
    (((c : Thread nD τ).loc cc0_scratch2) ↦{fullShare} f : sProp 𝕄) = bigSep Finset.univ fun d => rP c d f := by
  have h := pointsTo_biUnion (Ix := Unit) (Name := ℕ) (U := UU) (Lvl := ℕ) (q := fullShare) (ℓ := (c : Thread nD τ).loc cc0_scratch2) (f := f) Finset.univ slotSet slotSet_disj
  rw [slotSet_cover] at h
  exact h.trans (bigSep_congr fun d _ => by unfold rP; rw [rSlot_set])

theorem buf_nonempty (b : Ref sig .tc) : Nonempty (b.ty.Contents (Elt F)) := ⟨fun _ => Classical.choice inferInstance⟩

/-- The blocks of the send buffer, each at some contents, are the buffer at some contents. -/
theorem b_join (c : Dev nD) : (bigSep Finset.univ fun d => iprop(∃ f, bP c d f) : sProp 𝕄) ⊢ iprop(∃ f : (cc0_scratch0 : Ref sig .tc).ty.Contents (Elt F), ((c : Thread nD τ).loc cc0_scratch0) ↦{fullShare} f) := by
  haveI := buf_nonempty (F := F) cc0_scratch0
  refine (BI.bigSep_exists_pi Finset.univ _).trans ?_
  iintro ⟨%fs, H⟩
  have h := pointsTo_biUnion_join (Ix := Unit) (Name := ℕ) (U := UU) (Lvl := ℕ) (q := fullShare) (ℓ := (c : Thread nD τ).loc cc0_scratch0) Finset.univ rowSet fs (fs c) rowSet_disj
  rw [rowSet_cover] at h
  ihave H := ((Entails.of_eq (bigSep_congr fun d _ => by unfold bP; rw [bRow_set])).trans h) $$ H
  icases H with ⟨%g, -, H⟩
  iexists g; iexact H
/-- The slots of the receive buffer, each at some contents, are the buffer at some contents. -/
theorem r_join (c : Dev nD) : (bigSep Finset.univ fun d => iprop(∃ f, rP c d f) : sProp 𝕄) ⊢ iprop(∃ f : (cc0_scratch2 : Ref sig .tc).ty.Contents (Elt F), ((c : Thread nD τ).loc cc0_scratch2) ↦{fullShare} f) := by
  haveI := buf_nonempty (F := F) cc0_scratch2
  refine (BI.bigSep_exists_pi Finset.univ _).trans ?_
  iintro ⟨%fs, H⟩
  have h := pointsTo_biUnion_join (Ix := Unit) (Name := ℕ) (U := UU) (Lvl := ℕ) (q := fullShare) (ℓ := (c : Thread nD τ).loc cc0_scratch2) Finset.univ slotSet fs (fs c) slotSet_disj
  rw [slotSet_cover] at h
  ihave H := ((Entails.of_eq (bigSep_congr fun d _ => by unfold rP; rw [rSlot_set])).trans h) $$ H
  icases H with ⟨%g, -, H⟩
  iexists g; iexact H

omit [FloatOps F] in
instance oP_storable (c d : Dev nD) (q) (f) : BI.Storable (upEmb : UEmb _ 𝕄) (oP (F := F) c d q f) := by unfold oP; infer_instance
omit [FloatOps F] in
instance bP_storable (c d : Dev nD) (f) : BI.Storable (upEmb : UEmb _ 𝕄) (bP (F := F) c d f) := by unfold bP; infer_instance
omit [FloatOps F] in
instance rP_storable (c d : Dev nD) (f) : BI.Storable (upEmb : UEmb _ 𝕄) (rP (F := F) c d f) := by unfold rP; infer_instance

end Cert.KernelIdeal.Proto

end
-- ==== Proof.Sched.lean ====
module

public import proofs.«01_k».proof.Proof.Proto

/-! # The schedule: who pays which cell, with what, and in which order the waits may block -/

@[expose] public section

noncomputable section

namespace Cert.KernelIdeal.Proto

open Cert.KernelIdeal Cert.KernelIdeal.Gen Cert.KernelIdeal.Loops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- Which share of its own block device `c` lends the copy to device `j`. -/
def ix (c j : Dev nD) : ℕ := (j.val + 15 - c.val) % 16
theorem ix_pf (c : Dev nD) (r : Fin 15) : ix c (pf c r) = r.val := by revert c r; decide +kernel

/-- What the entry signal of device `bk c r` hands device `c`: slot `c` of its receive buffer and block `c` of its result. -/
def barPay (c : Dev nD) (r : Fin 15) : sProp 𝕄 := iprop((∃ f, rP (bk c r) c f) ∗ (∃ f, oP (bk c r) c fullShare f))

/-- What a DMA cell of device `c` is worth. Index 0: the block of the send buffer that was read. Index 1: the slot that
    arrived. Index 2: the lent share of the device's own block of the result. Index 3: the block that arrived. -/
def dmaPay (c : Dev nD) : Fin 4 → Dev nD → sProp 𝕄
  | 0, j => iprop(∃ f, bP c j f)
  | 1, j => rP c j (rsF m ρ c)
  | 2, j => oP c c (shareTokN fullShare (ix c j)) (outF m ρ)
  | 3, j => oP c j fullShare (outF m ρ)

/-- The payload of a duty of a cell. -/
def pay (c : Dev nD) : Cel → Fin 15 → sProp 𝕄
  | none, r => barPay c r
  | some k, _ => dmaPay m ρ c k.1 k.2

/-- The duties of a cell: the barrier's fifteen; one for a DMA cell of a peer; none for the device's own index. -/
def dut (c : Dev nD) : Cel → Finset (Fin 15)
  | none => Finset.univ
  | some k => if k.2 = c then ∅ else {0}

/-- The units of a duty. -/
def amt : Cel → ℕ
  | none => 1
  | some _ => N

/-- One round, round 0. -/
def ringRd : Rounds.Schedule (GSem nD τ sig) (Fin 15) 𝕄 where
  duties g r := if r = 0 ∧ g.1.2 = .tc then ((kOf g.2).map (dut g.1.1)).getD ∅ else ∅
  unitless _ := False
  amount g _ _ := ((kOf g.2).map amt).getD 1
  payload g _ d := ((kOf g.2).map fun k => pay m ρ g.1.1 k d).getD iprop(emp)
  amount_pos g _ _ _ := by
    rcases kOf g.2 with _ | _ | k
    · exact Nat.one_pos
    · exact Nat.one_pos
    · exact N_pos

instance dmaPay_storable (c : Dev nD) (i : Fin 4) (j : Dev nD) : BI.Storable (upEmb : UEmb _ 𝕄) (dmaPay (F := F) m ρ c i j) := by
  fin_cases i <;> unfold dmaPay <;> infer_instance

instance ringRd_payload_storable (g : GSem nD τ sig) (r : ℕ) (d : Fin 15) :
    BI.Storable (upEmb : UEmb _ 𝕄) ((ringRd (F := F) m ρ).payload g r d) := by
  show BI.Storable upEmb (((kOf g.2).map fun k => pay m ρ g.1.1 k d).getD iprop(emp))
  rcases kOf g.2 with _ | _ | k
  · show BI.Storable upEmb iprop(emp); infer_instance
  · show BI.Storable upEmb (barPay g.1.1 d); unfold barPay; infer_instance
  · show BI.Storable upEmb (dmaPay m ρ g.1.1 k.1 k.2); infer_instance

theorem duties_k (c : Dev nD) (k : Cel) : (ringRd (F := F) m ρ).duties (kcell c k) 0 = dut c k := by
  show (if (0 : ℕ) = 0 ∧ (kcell c k).1.2 = .tc then ((kOf (csem k)).map (dut c)).getD ∅ else ∅) = _
  rw [if_pos ⟨rfl, rfl⟩, kOf_csem]; rfl
theorem duties_later (g : GSem nD τ sig) : ∀ r, 1 ≤ r → (ringRd (F := F) m ρ).duties g r = ∅ :=
  fun r hr => by show (if _ then _ else _) = _; rw [if_neg fun h => by omega]
theorem amount_k (c : Dev nD) (k : Cel) (d : Fin 15) : (ringRd (F := F) m ρ).amount (kcell c k) 0 d = amt k := by
  show ((kOf (csem k)).map amt).getD 1 = _
  rw [kOf_csem]; rfl
theorem payload_k (c : Dev nD) (k : Cel) (d : Fin 15) : (ringRd (F := F) m ρ).payload (kcell c k) 0 d = pay m ρ c k d := by
  show ((kOf (csem k)).map fun k => pay m ρ c k d).getD iprop(emp) = _
  rw [kOf_csem]; rfl

theorem dut_dma {c j : Dev nD} (i : Fin 4) (h : j ≠ c) : dut c (some (i, j)) = {0} := if_neg h
theorem dut_own (c : Dev nD) (i : Fin 4) : dut c (some (i, c)) = ∅ := if_pos rfl

theorem expect_bar (c : Dev nD) : (ringRd (F := F) m ρ).expect (kcell c none) 0 = 15 := by
  unfold Schedule.expect Schedule.amountOf
  rw [duties_k, Finset.sum_congr rfl fun d _ => amount_k m ρ c none d]
  rfl
theorem expect_dma {c j : Dev nD} (i : Fin 4) (h : j ≠ c) : (ringRd (F := F) m ρ).expect (kcell c (some (i, j))) 0 = N := by
  unfold Schedule.expect Schedule.amountOf
  rw [duties_k, dut_dma i h, Finset.sum_singleton, amount_k]
  rfl

/-- The whole of the barrier cell's round. -/
theorem rest_bar (c : Dev nD) :
    bigSep ((ringRd (F := F) m ρ).duties (kcell c none) 0 \ ∅) (fun d => (ringRd (F := F) m ρ).payload (kcell c none) 0 d)
      = bigSep Finset.univ fun r => barPay c r := by
  rw [Finset.sdiff_empty, duties_k]
  exact bigSep_congr fun d _ => payload_k m ρ c none d
/-- The whole of a DMA cell's round. -/
theorem rest_dma {c j : Dev nD} (i : Fin 4) (h : j ≠ c) :
    bigSep ((ringRd (F := F) m ρ).duties (kcell c (some (i, j))) 0 \ ∅) (fun d => (ringRd (F := F) m ρ).payload (kcell c (some (i, j))) 0 d)
      = dmaPay m ρ c i j := by
  rw [Finset.sdiff_empty, duties_k, dut_dma i h, bigSep_singleton, payload_k]
  rfl
/-- A device's own index has no round at all. -/
theorem duties_own (c : Dev nD) (i : Fin 4) : ∀ r, 0 ≤ r → (ringRd (F := F) m ρ).duties (kcell c (some (i, c))) r = ∅ := fun r _ => by
  rcases Nat.eq_zero_or_pos r with rfl | h
  · rw [duties_k, dut_own]
  · exact duties_later m ρ _ r h

/-! ## What each device owes -/

/-- Tallies summed over a list of offsets. -/
def tl (f : Fin 15 → CellTallies nD τ sig Unit) (l : List (Fin 15)) : CellTallies nD τ sig Unit := (l.map f).sum
theorem tl_nil (f : Fin 15 → CellTallies nD τ sig Unit) : tl f [] = 0 := rfl
theorem tl_cons (f : Fin 15 → CellTallies nD τ sig Unit) (r : Fin 15) (l : List (Fin 15)) : tl f (r :: l) = tl f l + f r := by
  unfold tl; rw [List.map_cons, List.sum_cons, add_comm]

/-- The entry signals owed, the arrivals of the reduction owed, the arrivals of the gathering owed. -/
def barT (c : Dev nD) (r : Fin 15) : CellTallies nD τ sig Unit := tallyAt (kcell (pf c r) none) () 1
def rsT (c : Dev nD) (r : Fin 15) : CellTallies nD τ sig Unit := tallyAt (kcell (pf c r) (some (1, c))) () N
def agT (c : Dev nD) (r : Fin 15) : CellTallies nD τ sig Unit := tallyAt (kcell (pf c r) (some (3, c))) () N

/-- All a device owes at launch. -/
def O₀ (c : Dev nD) : CellTallies nD τ sig Unit := tl (agT c) offs + tl (rsT c) offs + tl (barT c) offs

/-- The level of a cell: barrier 1, arrivals of the reduction 2, of the gathering 3, the send sides 0. -/
def lvK : Cel → ℕ
  | none => 1
  | some k => if k.1 = 1 then 2 else if k.1 = 3 then 3 else 0
def L (g : GSem nD τ sig) : Finset Unit := if g.1.2 = .tc then {()} else ∅
def lv (g : GSem nD τ sig) (_ : Unit) : ℕ := ((kOf g.2).map lvK).getD 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Cel) (u : Unit) : lv (kcell c k) u = lvK k := by
  show ((kOf (csem k)).map lvK).getD 0 = _
  rw [kOf_csem]; rfl

/-- A cell with a positive tally is one of the summands'. -/
theorem tl_pos {f : Fin 15 → CellTallies nD τ sig Unit} {cell : Fin 15 → GSem nD τ sig} {n : ℕ} (hf : ∀ r, f r = tallyAt (cell r) () n)
    {g : GSem nD τ sig} {u : Unit} : ∀ l : List (Fin 15), 0 < tl f l g u → ∃ r ∈ l, g = cell r
  | [], h => absurd h (Nat.lt_irrefl 0)
  | r :: l, h => by
    rw [tl_cons, Pi.add_apply, Finsupp.add_apply] at h
    rcases Nat.eq_zero_or_pos (tl f l g u) with h0 | h0
    · rw [h0, Nat.zero_add, hf, tallyAt_apply] at h
      by_cases hg : g = cell r ∧ u = ()
      · exact ⟨r, List.mem_cons_self, hg.1⟩
      · rw [if_neg hg] at h; exact absurd h (Nat.lt_irrefl 0)
    · obtain ⟨r', hr', e⟩ := tl_pos hf l h0
      exact ⟨r', List.mem_cons_of_mem _ hr', e⟩

/-- A core may block on a cell below everything it owes. -/
theorem mayWait_of (c : Dev nD) (sm : SemLoc sig) (k : ℕ) (O : CellTallies nD τ sig Unit) (hk : lv ((c : Thread nD τ), sm) () ≤ k)
    (hO : ∀ g u, 0 < O g u → ∃ d k', g = kcell d k' ∧ k < lvK k') :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by obtain ⟨d, k', rfl, -⟩ := hO g u hg; rw [L_tc]; exact Finset.mem_singleton_self _)
    (fun p hp => by rw [Finset.mem_singleton.mp hp]; exact hk)
    (fun g u hg => by obtain ⟨d, k', rfl, h⟩ := hO g u hg; rw [lv_k]; exact h)

theorem ag_pos (c : Dev nD) (l : List (Fin 15)) (g : GSem nD τ sig) (u : Unit) (h : 0 < tl (agT c) l g u) :
    ∃ d k', g = kcell d k' ∧ 2 < lvK k' := by
  obtain ⟨r, -, rfl⟩ := tl_pos (cell := fun r => kcell (pf c r) (some (3, c))) (fun _ => rfl) l h
  exact ⟨_, _, rfl, show 2 < 3 by decide⟩
theorem rs_pos (c : Dev nD) (l : List (Fin 15)) (g : GSem nD τ sig) (u : Unit) (h : 0 < tl (rsT c) l g u) :
    ∃ d k', g = kcell d k' ∧ 1 < lvK k' := by
  obtain ⟨r, -, rfl⟩ := tl_pos (cell := fun r => kcell (pf c r) (some (1, c))) (fun _ => rfl) l h
  exact ⟨_, _, rfl, show 1 < 2 by decide⟩
theorem bar_pos (c : Dev nD) (l : List (Fin 15)) (g : GSem nD τ sig) (u : Unit) (h : 0 < tl (barT c) l g u) :
    ∃ d k', g = kcell d k' ∧ 0 < lvK k' := by
  obtain ⟨r, -, rfl⟩ := tl_pos (cell := fun r => kcell (pf c r) none) (fun _ => rfl) l h
  exact ⟨_, _, rfl, show 0 < 1 by decide⟩

/-- A sum's positive cells are the summands'. -/
theorem add_pos_of {A B : CellTallies nD τ sig Unit} {P : GSem nD τ sig → Prop} {g : GSem nD τ sig} {u : Unit} (hA : 0 < A g u → P g) (hB : 0 < B g u → P g)
    (h : 0 < (A + B) g u) : P g := by
  rw [Pi.add_apply, Finsupp.add_apply] at h
  rcases Nat.eq_zero_or_pos (A g u) with h0 | h0
  · exact hB (by omega)
  · exact hA h0

/-- The barrier wait, owing all arrivals. -/
theorem mayWait_bar (c : Dev nD) : (levAts L lv : sProp 𝕄) ⊢ MayWait (c : Thread nD τ) (csem none) () (tl (agT c) offs + tl (rsT c) offs) :=
  mayWait_of c _ 1 _ (by rw [show ((c : Thread nD τ), csem none) = kcell c none from rfl, lv_k]; exact Nat.le_refl 1) fun g u h =>
    add_pos_of (P := fun g => ∃ d k', g = kcell d k' ∧ 1 < lvK k')
      (fun h => by obtain ⟨d, k', e, hk⟩ := ag_pos c _ g u h; exact ⟨d, k', e, by omega⟩) (rs_pos c _ g u) h
/-- The waits of the reduction, owing the arrivals of the gathering. -/
theorem mayWait_rs (c j : Dev nD) : (levAts L lv : sProp 𝕄) ⊢ MayWait (c : Thread nD τ) (csem (some (1, j))) () (tl (agT c) offs) :=
  mayWait_of c _ 2 _ (by rw [show ((c : Thread nD τ), csem (some (1, j))) = kcell c (some (1, j)) from rfl, lv_k]; exact Nat.le_refl 2) (ag_pos c _)
/-- The staging waits, owing all or nothing. -/
theorem mayWait_stage (c : Dev nD) (q : DmaSem sig) (hq : kOf (.dma q) = none) (O : CellTallies nD τ sig Unit) (hO : O = O₀ c ∨ O = 0) :
    (levAts L lv : sProp 𝕄) ⊢ MayWait (c : Thread nD τ) (.dma q) () O := by
  rcases hO with rfl | rfl
  · refine mayWait_of c _ 0 _ (by show ((kOf (.dma q)).map lvK).getD 0 ≤ 0; rw [hq]; exact Nat.le_refl 0) fun g u h => ?_
    refine add_pos_of (P := fun g => ∃ d k', g = kcell d k' ∧ 0 < lvK k') (fun h => ?_) (bar_pos c _ g u) h
    refine add_pos_of (P := fun g => ∃ d k', g = kcell d k' ∧ 0 < lvK k') (fun h => ?_) (fun h => ?_) h
    · obtain ⟨d, k', e, hk⟩ := ag_pos c _ g u h; exact ⟨d, k', e, by omega⟩
    · obtain ⟨d, k', e, hk⟩ := rs_pos c _ g u h; exact ⟨d, k', e, by omega⟩
  · rw [MayWait_zero]; iintro -; iempintro

/-! ## Sums over peers -/

/-- A sum over the devices is one device's summand and its peers' in front, -/
theorem bigSep_pf (c : Dev nD) (Φ : Dev nD → sProp 𝕄) : bigSep Finset.univ Φ = iprop(Φ c ∗ bigSep Finset.univ fun r => Φ (pf c r)) := by
  rw [univ_pf c, bigSep_insert (fun h => by obtain ⟨r, -, e⟩ := Finset.mem_image.mp h; exact pf_ne c r e),
    bigSep_image_of_injOn ((pf_inj c).injOn)]
  rfl
/-- or the peers behind. -/
theorem bigSep_bk (c : Dev nD) (Φ : Dev nD → sProp 𝕄) : bigSep Finset.univ Φ = iprop(Φ c ∗ bigSep Finset.univ fun r => Φ (bk c r)) := by
  rw [univ_bk c, bigSep_insert (fun h => by obtain ⟨r, -, e⟩ := Finset.mem_image.mp h; exact bk_ne c r e),
    bigSep_image_of_injOn ((bk_inj c).injOn)]
  rfl

/-- The barrier's payloads, listed by the peers in front. -/
theorem barPay_pf (c : Dev nD) : (bigSep Finset.univ fun r => (barPay c r : sProp 𝕄))
    = bigSep Finset.univ fun r : Fin 15 => iprop((∃ f, rP (pf c r) c f) ∗ (∃ f, oP (pf c r) c fullShare f)) := by
  rw [bigSep_univ_equiv (Fin.revPerm : Equiv.Perm (Fin 15))]
  refine bigSep_congr fun r _ => ?_
  unfold barPay
  rw [Fin.revPerm_apply, bk_rev]

end Cert.KernelIdeal.Proto

end
-- ==== Proof.Ops.lean ====
module

public import proofs.«01_k».proof.Proof.Sched

/-! # One rule per operation of the body

Each rule is stated at the offset the text computes, given that it is the canonical one, and over the blocks of the
buffers. -/

@[expose] public section

noncomputable section

namespace Cert.KernelIdeal.Proto

open Cert.KernelIdeal Cert.KernelIdeal.Gen Cert.KernelIdeal.Loops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program's weakest precondition on device `c`. -/
abbrev WP (c : Dev nD) (p : Prog (TpuEff nD τ sig (Elt F) Λ₀ .tc) PUnit.{1}) (Q : PUnit.{1} → sProp 𝕄) : sProp 𝕄 :=
  wp frame (wpE (defs₀ (F := F)) 𝒱₀ (c : Thread nD τ) none) Set.univ p Q

/-! ## The records: every cell's invariant, and that every cell has reached round 0 -/

def records (K : Dev nD × Cel → ℕ) : sProp 𝕄 :=
  iprop((bigSep Finset.univ fun ck : Dev nD × Cel => cellInv ER (ringRd m ρ) (K ck) (kcell ck.1 ck.2))
    ∗ bigSep Finset.univ fun ck : Dev nD × Cel => reached ER (kcell ck.1 ck.2) 0)

instance records_persistent (K : Dev nD × Cel → ℕ) : BI.Persistent (records m ρ K) := by unfold records; infer_instance

variable (K : Dev nD × Cel → ℕ)

theorem inv_at (c : Dev nD) (k : Cel) : records m ρ K ⊢ cellInv ER (ringRd m ρ) (K (c, k)) (kcell c k) := by
  unfold records
  iintro ⟨H, -⟩
  iapply (show (bigSep Finset.univ fun ck : Dev nD × Cel => (cellInv ER (ringRd m ρ) (K ck) (kcell ck.1 ck.2) : sProp 𝕄)) ⊢ cellInv ER (ringRd m ρ) (K (c, k)) (kcell c k)
    from bigSep_elim (Finset.mem_univ ((c, k) : Dev nD × Cel)))
  iexact H
theorem reached_at (c : Dev nD) (k : Cel) : records m ρ K ⊢ (reached ER (kcell c k) 0 : sProp 𝕄) := by
  unfold records
  iintro ⟨-, H⟩
  iapply (show (bigSep Finset.univ fun ck : Dev nD × Cel => (reached ER (kcell ck.1 ck.2) 0 : sProp 𝕄)) ⊢ reached ER (kcell c k) 0
    from bigSep_elim (Finset.mem_univ ((c, k) : Dev nD × Cel)))
  iexact H

/-! ## Loads and stores -/

/-- Writing through a view what the view reads of some contents gives those contents on the view. -/
theorem write_at {κ : Kind} {sp : Space} {s : Shape} {e : EltTy} (v : View sig κ sp s e) (fd g : v.ty.Contents (Elt F)) {w : s.Idx → Elt F e}
    (h : v.read (Elt F) g = w) : ∀ i ∈ v.set, v.write (Elt F) fd w Finset.univ i = g i := fun i hi => by
  subst h
  rw [View.write_read_eq_piecewise, View.setOn_univ, Finset.piecewise_eq_of_mem _ _ _ hi]

section Ops

variable {c : Dev nD} {Q : PUnit.{1} → sProp (MT nD τ sig Unit (Elt F) ℕ UU ℕ)}

/-- The staged argument on device `c`, the accumulator on device `c`. -/
def xP (c : Dev nD) : sProp 𝕄 := ((c : Thread nD τ).loc cc0_stg0_0) ↦{fullShare} xstg m ρ c
def aP (c : Dev nD) (A : FVec F S64x512 .f32) : sProp 𝕄 := ((c : Thread nD τ).loc cc0_scratch1) ↦{fullShare} (A : (cc0_scratch1 : Ref sig .tc).ty.Contents (Elt F))

theorem load_x (d : Dev nD) {o : Fin 2 → ℕ} {h : ∀ i, o i + S64x512.size i ≤ S1024x512.size i} (e : o = rowOff d)
    {hl : (xM : Memref sig .tc .vmem S1024x512 .f32).view.LoadsAt (Rect.unit (s := S1024x512) o S64x512.size h).toLoadRect}
    {k : Vec F S64x512 .f32 → Prog (TpuEff nD τ sig (Elt F) Λ₀ .tc) PUnit} :
    xP m ρ c ⊢ iprop((xP m ρ c -∗ WP c (k (blkX m ρ c d)) Q)
      -∗ WP c (.op (.load xM (Rect.unit (s := S1024x512) o S64x512.size h).toLoadRect hl) k) Q) := by
  subst e
  exact wp_load_rect 𝒱₀ (c : Thread nD τ) none Set.univ (m := xM) (r := Rect.unit (s := S1024x512) (rowOff d) S64x512.size h) (Finset.subset_univ _)

theorem load_b (d : Dev nD) (f : (cc0_scratch0 : Ref sig .tc).ty.Contents (Elt F)) {o : Fin 2 → ℕ} {h : ∀ i, o i + S64x512.size i ≤ S1024x512.size i} (e : o = rowOff d)
    {hl : (bM : Memref sig .tc .vmem S1024x512 .bf16).view.LoadsAt (Rect.unit (s := S1024x512) o S64x512.size h).toLoadRect}
    {k : Vec F S64x512 .bf16 → Prog (TpuEff nD τ sig (Elt F) Λ₀ .tc) PUnit} :
    bP c d f ⊢ iprop((∀ v, bP c d f -∗ WP c (k v) Q)
      -∗ WP c (.op (.load bM (Rect.unit (s := S1024x512) o S64x512.size h).toLoadRect hl) k) Q) := by
  subst e
  unfold bP
  iintro H Hk
  iapply (wp_load_rect 𝒱₀ (c : Thread nD τ) none Set.univ (m := bM) (r := Rect.unit (s := S1024x512) (rowOff d) S64x512.size h) (f := f)
    (S := (bRow d).view.set) (Finset.Subset.refl _)) $$ H
  iapply Hk

theorem store_b (d : Dev nD) (f : (cc0_scratch0 : Ref sig .tc).ty.Contents (Elt F)) (w : Vec F S64x512 .bf16) {o : Fin 2 → ℕ} {h : ∀ i, o i + S64x512.size i ≤ S1024x512.size i} (e : o = rowOff d)
    {hx : ((bM : Memref sig .tc .vmem S1024x512 .bf16).access (Rect.unit (s := S1024x512) o S64x512.size h)).Stores Finset.univ}
    {hm : (Finset.univ : Finset (Rect.unit (s := S1024x512) o S64x512.size h).shape.Idx) = Finset.univ ∨ ∀ a, (Rect.unit (s := S1024x512) o S64x512.size h).stride a = 1}
    {k : PUnit → Prog (TpuEff nD τ sig (Elt F) Λ₀ .tc) PUnit} :
    bP c d f ⊢ iprop((∀ f', ⌜(bRow d).view.read (Elt F) f' = w⌝ -∗ bP c d f' -∗ WP c (k ⟨⟩) Q)
      -∗ WP c (.op (.store bM (Rect.unit (s := S1024x512) o S64x512.size h) w Finset.univ hx hm) k) Q) := by
  subst e
  unfold bP
  iintro H Hk
  iapply (wp_store 𝒱₀ (c : Thread nD τ) none Set.univ (m := bM) (r := Rect.unit (s := S1024x512) (rowOff d) S64x512.size h) (Mk := Finset.univ) (f := f)
    (S := (bRow d).view.set) (Finset.Subset.refl _)) $$ H
  iintro H
  iapply Hk $$ %((bRow d).view.write (Elt F) f w Finset.univ) [] H
  ipureintro
  exact View.read_write_univ _ _

theorem load_a (A : FVec F S64x512 .f32)
    {h : ∀ i, (![0, 0] : Fin 2 → ℕ) i + S64x512.size i ≤ S64x512.size i}
    {hl : (aM : Memref sig .tc .vmem S64x512 .f32).view.LoadsAt (Rect.unit (s := S64x512) ![0, 0] S64x512.size h).toLoadRect}
    {k : Vec F S64x512 .f32 → Prog (TpuEff nD τ sig (Elt F) Λ₀ .tc) PUnit} :
    aP c A ⊢ iprop((aP c A -∗ WP c (k A) Q)
      -∗ WP c (.op (.load aM (Rect.unit (s := S64x512) ![0, 0] S64x512.size h).toLoadRect hl) k) Q) := by
  have hz : (![0, 0] : Fin 2 → ℕ) = fun _ => 0 := funext fun a => by fin_cases a <;> rfl
  have hr : (aM : Memref sig .tc .vmem S64x512 .f32).view.readAt (Elt F) (Rect.unit (s := S64x512) ![0, 0] S64x512.size h).toLoadRect A = A :=
    Memref.readAt_unit_zero (Elt F) cc0_scratch1 hz _ A
  unfold aP
  iintro H Hk
  iapply (wp_load 𝒱₀ (c : Thread nD τ) none Set.univ (m := aM) (r := (Rect.unit (s := S64x512) ![0, 0] S64x512.size h).toLoadRect) (f := A)
    (S := Finset.univ) (q := fullShare) (Finset.subset_univ _)) $$ H
  rw [hr]
  iexact Hk

theorem store_a (A w : FVec F S64x512 .f32)
    {h : ∀ i, (![0, 0] : Fin 2 → ℕ) i + S64x512.size i ≤ S64x512.size i}
    {hx : ((aM : Memref sig .tc .vmem S64x512 .f32).access (Rect.unit (s := S64x512) ![0, 0] S64x512.size h)).Stores Finset.univ}
    {hm : (Finset.univ : Finset (Rect.unit (s := S64x512) ![0, 0] S64x512.size h).shape.Idx) = Finset.univ ∨ ∀ a, (Rect.unit (s := S64x512) ![0, 0] S64x512.size h).stride a = 1}
    {k : PUnit → Prog (TpuEff nD τ sig (Elt F) Λ₀ .tc) PUnit} :
    aP c A ⊢ iprop((aP c w -∗ WP c (k ⟨⟩) Q)
      -∗ WP c (.op (.store aM (Rect.unit (s := S64x512) ![0, 0] S64x512.size h) w Finset.univ hx hm) k) Q) := by
  have hz : (![0, 0] : Fin 2 → ℕ) = fun _ => 0 := funext fun a => by fin_cases a <;> rfl
  have hw : ((aM : Memref sig .tc .vmem S64x512 .f32).access (Rect.unit (s := S64x512) ![0, 0] S64x512.size h) : View sig .tc _ _ _).write (Elt F) A w Finset.univ = w :=
    Memref.write_access_unit_zero_univ (Elt F) cc0_scratch1 hz _ A w
  unfold aP
  iintro H Hk
  iapply (wp_store 𝒱₀ (c : Thread nD τ) none Set.univ (m := aM) (r := Rect.unit (s := S64x512) ![0, 0] S64x512.size h) (w := w) (Mk := Finset.univ) (f := A)
    (S := Finset.univ) (Finset.subset_univ _)) $$ H
  rw [hw]
  iexact Hk

/-- What a load of slot `d` of the receive buffer gives. -/
def slotX (c d : Dev nD) : Vec F S1x64x512 .bf16 :=
  ((rM : Memref sig .tc .vmem S16x64x512 .bf16).access (Rect.unit (s := S16x64x512) (slotOff d) S1x64x512.size (slot_inb d))).read (Elt F) (rsF m ρ c)

/-- The accumulation step on a loaded slot adds what the peer sent. -/
theorem pay18_slot (d : Dev nD) (v : FVec F S64x512 .f32) : k0_pay18 v (slotX m ρ c d) = accAdd v (sendX m ρ d c) := by
  have h : k0_pay18 v (slotX m ρ c d) = accAdd v ((rSlot d).view.read (Elt F) (rsF m ρ c)) := rfl
  rw [h, rsF_slot]

theorem load_r (d : Dev nD) {o : Fin 3 → ℕ} {h : ∀ i, o i + S1x64x512.size i ≤ S16x64x512.size i} (e : o = slotOff d)
    {hl : (rM : Memref sig .tc .vmem S16x64x512 .bf16).view.LoadsAt (Rect.unit (s := S16x64x512) o S1x64x512.size h).toLoadRect}
    {k : Vec F S1x64x512 .bf16 → Prog (TpuEff nD τ sig (Elt F) Λ₀ .tc) PUnit} :
    rP c d (rsF m ρ c) ⊢ iprop((rP c d (rsF m ρ c) -∗ WP c (k (slotX m ρ c d)) Q)
      -∗ WP c (.op (.load rM (Rect.unit (s := S16x64x512) o S1x64x512.size h).toLoadRect hl) k) Q) := by
  subst e
  exact wp_load_rect 𝒱₀ (c : Thread nD τ) none Set.univ (m := rM) (r := Rect.unit (s := S16x64x512) (slotOff d) S1x64x512.size h) (f := rsF m ρ c)
    (S := (rSlot d).view.set) (by rw [rSlot_set]; exact (View.set_slice_whole cc0_scratch2 _).le)

theorem load_o (d : Dev nD) (f : (cc0_stg1_0 : Ref sig .tc).ty.Contents (Elt F)) {o : Fin 2 → ℕ} {h : ∀ i, o i + S64x512.size i ≤ S1024x512.size i} (e : o = rowOff d)
    {hl : (oM : Memref sig .tc .vmem S1024x512 .bf16).view.LoadsAt (Rect.unit (s := S1024x512) o S64x512.size h).toLoadRect}
    {k : Vec F S64x512 .bf16 → Prog (TpuEff nD τ sig (Elt F) Λ₀ .tc) PUnit} :
    oP c d fullShare f ⊢ iprop((∀ v, oP c d fullShare f -∗ WP c (k v) Q)
      -∗ WP c (.op (.load oM (Rect.unit (s := S1024x512) o S64x512.size h).toLoadRect hl) k) Q) := by
  subst e
  unfold oP
  iintro H Hk
  iapply (wp_load_rect 𝒱₀ (c : Thread nD τ) none Set.univ (m := oM) (r := Rect.unit (s := S1024x512) (rowOff d) S64x512.size h) (f := f)
    (S := (oRow d).view.set) (Finset.Subset.refl _)) $$ H
  iapply Hk

theorem store_o (f : (cc0_stg1_0 : Ref sig .tc).ty.Contents (Elt F)) {o : Fin 2 → ℕ} {h : ∀ i, o i + S64x512.size i ≤ S1024x512.size i} (e : o = rowOff c)
    {hx : ((oM : Memref sig .tc .vmem S1024x512 .bf16).access (Rect.unit (s := S1024x512) o S64x512.size h)).Stores Finset.univ}
    {hm : (Finset.univ : Finset (Rect.unit (s := S1024x512) o S64x512.size h).shape.Idx) = Finset.univ ∨ ∀ a, (Rect.unit (s := S1024x512) o S64x512.size h).stride a = 1}
    {k : PUnit → Prog (TpuEff nD τ sig (Elt F) Λ₀ .tc) PUnit} :
    oP c c fullShare f ⊢ iprop((oP c c fullShare (outF m ρ) -∗ WP c (k ⟨⟩) Q)
      -∗ WP c (.op (.store oM (Rect.unit (s := S1024x512) o S64x512.size h) (k0_pay35 (accF m ρ c)) Finset.univ hx hm) k) Q) := by
  subst e
  unfold oP
  iintro H Hk
  iapply (wp_store 𝒱₀ (c : Thread nD τ) none Set.univ (m := oM) (r := Rect.unit (s := S1024x512) (rowOff c) S64x512.size h) (Mk := Finset.univ) (f := f)
    (S := (oRow c).view.set) (Finset.Subset.refl _)) $$ H
  iintro H
  iapply Hk
  iapply (Entails.of_eq (pointsTo_congr (write_at (F := F) (oRow c).view f (outF m ρ) (outF_row m ρ c))))
  iexact H

/-! ## Signals, copies, waits -/

theorem signal (r : Fin 15) (O : CellTallies nD τ sig Unit) (W : Waits sig Unit)
    {k : PUnit → Prog (TpuEff nD τ sig (Elt F) Λ₀ .tc) PUnit} :
    iprop(records m ρ K ∗ owes (c : Thread nD τ) (O + barT c r) W ∗ dutyTok ER (kcell (pf c r) none) 0 r
        ∗ (∃ f, rP c (pf c r) f) ∗ (∃ f, oP c (pf c r) fullShare f))
      ⊢ iprop((owes (c : Thread nD τ) O W -∗ WP c (k ⟨⟩) Q)
        -∗ WP c (.op (.semSignal ((pf c r : Dev nD) : Thread nD τ) barS 1) k) Q) := by
  iintro ⟨#HR, HO, Ht, Hr, Ho⟩
  iapply (Rounds.wp_signal 𝒱₀ ER (ringRd m ρ) (c : Thread nD τ) none (dst := (pf c r : Thread nD τ)) (sem := barS) (r := 0) (κ := K (pf c r, none))
      (d := r) (by rw [show (((pf c r : Dev nD) : Thread nD τ), SemLoc.reg barS) = kcell (pf c r) none from rfl, duties_k]; exact Finset.mem_univ _)
      (amount_k m ρ (pf c r) none r) () O rfl) $$ [HO Ht Hr Ho]
  isplitr; · iapply (inv_at m ρ K (pf c r) none); iexact HR
  isplitl [HO]; · iexact HO
  isplitl [Ht]; · iexact Ht
  isplitl
  · iapply (show barPay (pf c r) r ⊢ (ringRd m ρ).payload (((pf c r : Dev nD) : Thread nD τ), SemLoc.reg barS) 0 r from Entails.of_eq (payload_k m ρ (pf c r) none r).symm)
    unfold barPay
    rw [bk_pf]
    isplitl [Hr] <;> iassumption
  iapply (reached_at m ρ K (pf c r) none); iexact HR

theorem amount_row (d : Dev nD) (q : DmaSem sig) : (oRow d).view.amount (.dma q) = N := rfl
theorem amount_brow (d : Dev nD) (q : DmaSem sig) : (bRow d).view.amount (.dma q) = N := rfl
theorem amount_slot (d : Dev nD) (q : DmaSem sig) : (rSlot d).view.amount (.dma q) = N := rfl

/-- A copy of the reduction phase. -/
theorem send_rs (r : Fin 15) (f : (cc0_scratch0 : Ref sig .tc).ty.Contents (Elt F)) (hf : (bRow (pf c r)).view.read (Elt F) f = sendX m ρ c (pf c r))
    (fd : (cc0_scratch2 : Ref sig .tc).ty.Contents (Elt F)) (O : CellTallies nD τ sig Unit) (W : Waits sig Unit)
    {o5 : Fin 2 → ℕ} {h5 : ∀ i, o5 i + S64x512.size i ≤ S1024x512.size i} (e5 : o5 = rowOff (pf c r))
    {o4 : Fin 3 → ℕ} {h4 : ∀ i, o4 i + S1x64x512.size i ≤ S16x64x512.size i} (e4 : o4 = slotOff c)
    {o2 : Fin 1 → ℕ} {h2 : ∀ i, o2 i + S1.size i ≤ S16.size i} (e2 : o2 = semOff (pf c r))
    {o3 : Fin 1 → ℕ} {h3 : ∀ i, o3 i + S1.size i ≤ S16.size i} (e3 : o3 = semOff c)
    {hsc : (slotAt rM o4 h4 : Memref sig (Dev.tc (pf c r) : Thread nD τ).2.kind .vmem S64x512 .bf16).view.ref.isScScratch = false}
    {hsrc : (rowsAt bM o5 h5).view.WordExact} {hdst : (slotAt rM o4 h4).view.WordExact}
    {hsem : DmaTarget.Typed .vmem (.dma (semAt cc0_scratch4 o3 h3)) (.remote (Dev.tc (pf c r) : Thread nD τ) (slotAt rM o4 h4) (.dma (semAt cc0_scratch3 o2 h2)) hsc)}
    {k : PUnit → Prog (TpuEff nD τ sig (Elt F) Λ₀ .tc) PUnit} :
    iprop(records m ρ K ∗ bP c (pf c r) f ∗ rP (pf c r) c fd ∗ owes (c : Thread nD τ) (O + rsT c r) W
        ∗ dutyTok ER (kcell c (some (0, pf c r))) 0 0 ∗ dutyTok ER (kcell (pf c r) (some (1, c))) 0 0)
      ⊢ iprop(((cred (tallyAt (kcell c (some (0, pf c r))) () N) ∗ owes (c : Thread nD τ) O W) -∗ WP c (k ⟨⟩) Q)
        -∗ WP c (.op (.enqueueDma (rowsAt bM o5 h5) (.remote (Dev.tc (pf c r) : Thread nD τ) (slotAt rM o4 h4) (.dma (semAt cc0_scratch3 o2 h2)) hsc) (.dma (semAt cc0_scratch4 o3 h3)) hsrc hdst hsem) k) Q) := by
  subst e5 e4 e2 e3
  iintro ⟨#HR, Hb, Hr, HO, Ht0, Ht1⟩
  iapply (Rounds.wp_send_pointsTo 𝒱₀ ER (ringRd m ρ) (c : Thread nD τ) none (κ₁ := K (c, some (0, pf c r))) (κ₂ := K (pf c r, some (1, c)))
    (r₁ := 0) (r₂ := 0) (d₁ := 0) (d₂ := 0) (fs := f) (fd := fd) (q := fullShare)
    (show (0 : Fin 15) ∈ (ringRd m ρ).duties (kcell c (some (0, pf c r))) 0 by rw [duties_k, dut_dma 0 (pf_ne c r)]; exact Finset.mem_singleton_self _)
    (show (0 : Fin 15) ∈ (ringRd m ρ).duties (kcell (pf c r) (some (1, c))) 0 by rw [duties_k, dut_dma 1 (pf_ne c r).symm]; exact Finset.mem_singleton_self _)
    () () N (amount_slot c _) (amount_k m ρ c (some (0, pf c r)) 0) (amount_k m ρ (pf c r) (some (1, c)) 0) O rfl (W := W)
    (show _ ⊢ (ringRd m ρ).payload (kcell c (some (0, pf c r))) 0 0 by
      rw [payload_k]; unfold pay dmaPay bP; iintro H; iexists f; iexact H)
    (show _ ⊢ (ringRd m ρ).payload (kcell (pf c r) (some (1, c))) 0 0 by
      rw [payload_k]; unfold pay dmaPay rP
      exact Entails.of_eq (pointsTo_congr (write_at (F := F) (rSlot c).view fd (rsF m ρ (pf c r)) ((rsF_slot m ρ (pf c r) c).trans hf.symm))))) $$ [Hb Hr HO Ht0 Ht1]
  isplitr; · iapply (inv_at m ρ K c (some (0, pf c r))); iexact HR
  isplitr; · iapply (inv_at m ρ K (pf c r) (some (1, c))); iexact HR
  isplitl [Hb]; · unfold bP; iexact Hb
  isplitl [Hr]; · unfold rP; iexact Hr
  isplitl [HO]; · iexact HO
  isplitl [Ht0]; · iexact Ht0
  isplitr; · iapply (reached_at m ρ K c (some (0, pf c r))); iexact HR
  isplitl [Ht1]; · iexact Ht1
  iapply (reached_at m ρ K (pf c r) (some (1, c))); iexact HR

/-- A copy of the gathering phase, reading a share of the device's block. -/
theorem send_ag (r : Fin 15) (fd : (cc0_stg1_0 : Ref sig .tc).ty.Contents (Elt F)) (O : CellTallies nD τ sig Unit) (W : Waits sig Unit)
    {o5 : Fin 2 → ℕ} {h5 : ∀ i, o5 i + S64x512.size i ≤ S1024x512.size i} (e5 : o5 = rowOff c)
    {o2 : Fin 1 → ℕ} {h2 : ∀ i, o2 i + S1.size i ≤ S16.size i} (e2 : o2 = semOff (pf c r))
    {o3 : Fin 1 → ℕ} {h3 : ∀ i, o3 i + S1.size i ≤ S16.size i} (e3 : o3 = semOff c)
    {hsc : (rowsAt oM o5 h5 : Memref sig (Dev.tc (pf c r) : Thread nD τ).2.kind .vmem S64x512 .bf16).view.ref.isScScratch = false}
    {hsrc : (rowsAt oM o5 h5).view.WordExact} {hdst : (rowsAt oM o5 h5).view.WordExact}
    {hsem : DmaTarget.Typed .vmem (.dma (semAt cc0_scratch6 o3 h3)) (.remote (Dev.tc (pf c r) : Thread nD τ) (rowsAt oM o5 h5) (.dma (semAt cc0_scratch5 o2 h2)) hsc)}
    {k : PUnit → Prog (TpuEff nD τ sig (Elt F) Λ₀ .tc) PUnit} :
    iprop(records m ρ K ∗ oP c c (shareTok fullShare 15 r) (outF m ρ) ∗ oP (pf c r) c fullShare fd ∗ owes (c : Thread nD τ) (O + agT c r) W
        ∗ dutyTok ER (kcell c (some (2, pf c r))) 0 0 ∗ dutyTok ER (kcell (pf c r) (some (3, c))) 0 0)
      ⊢ iprop(((cred (tallyAt (kcell c (some (2, pf c r))) () N) ∗ owes (c : Thread nD τ) O W) -∗ WP c (k ⟨⟩) Q)
        -∗ WP c (.op (.enqueueDma (rowsAt oM o5 h5) (.remote (Dev.tc (pf c r) : Thread nD τ) (rowsAt oM o5 h5) (.dma (semAt cc0_scratch5 o2 h2)) hsc) (.dma (semAt cc0_scratch6 o3 h3)) hsrc hdst hsem) k) Q) := by
  subst e5 e2 e3
  iintro ⟨#HR, Hb, Hr, HO, Ht0, Ht1⟩
  iapply (Rounds.wp_send_pointsTo 𝒱₀ ER (ringRd m ρ) (c : Thread nD τ) none (κ₁ := K (c, some (2, pf c r))) (κ₂ := K (pf c r, some (3, c)))
    (r₁ := 0) (r₂ := 0) (d₁ := 0) (d₂ := 0) (fs := outF m ρ) (fd := fd) (q := shareTok fullShare 15 r)
    (show (0 : Fin 15) ∈ (ringRd m ρ).duties (kcell c (some (2, pf c r))) 0 by rw [duties_k, dut_dma 2 (pf_ne c r)]; exact Finset.mem_singleton_self _)
    (show (0 : Fin 15) ∈ (ringRd m ρ).duties (kcell (pf c r) (some (3, c))) 0 by rw [duties_k, dut_dma 3 (pf_ne c r).symm]; exact Finset.mem_singleton_self _)
    () () N (amount_row c _) (amount_k m ρ c (some (2, pf c r)) 0) (amount_k m ρ (pf c r) (some (3, c)) 0) O rfl (W := W)
    (show _ ⊢ (ringRd m ρ).payload (kcell c (some (2, pf c r))) 0 0 by
      rw [payload_k]; show _ ⊢ oP c c (shareTokN fullShare (ix c (pf c r))) (outF m ρ); rw [ix_pf]; unfold oP; exact Entails.refl _)
    (show _ ⊢ (ringRd m ρ).payload (kcell (pf c r) (some (3, c))) 0 0 by
      rw [payload_k]; unfold pay dmaPay oP
      exact Entails.of_eq (pointsTo_congr (write_at (F := F) (oRow c).view fd (outF m ρ) rfl)))) $$ [Hb Hr HO Ht0 Ht1]
  isplitr; · iapply (inv_at m ρ K c (some (2, pf c r))); iexact HR
  isplitr; · iapply (inv_at m ρ K (pf c r) (some (3, c))); iexact HR
  isplitl [Hb]; · unfold oP; iexact Hb
  isplitl [Hr]; · unfold oP; iexact Hr
  isplitl [HO]; · iexact HO
  isplitl [Ht0]; · iexact Ht0
  isplitr; · iapply (reached_at m ρ K c (some (2, pf c r))); iexact HR
  isplitl [Ht1]; · iexact Ht1
  iapply (reached_at m ρ K (pf c r) (some (3, c))); iexact HR

/-- A wait on a DMA cell of a peer: its payload. -/
theorem wait_dma (i : Fin 4) {j : Dev nD} (hj : j ≠ c) (O : CellTallies nD τ sig Unit)
    {o : Fin 1 → ℕ} {h : ∀ i, o i + S1.size i ≤ S16.size i} (e : o = semOff j) {a : DmaSems sig S16} (ha : a = arr i)
    {src dst : Memref sig .tc .vmem S64x512 .bf16} {hsrc : src.view.WordExact} {hdst : dst.view.WordExact} (hN : dst.view.dmaCredit = N)
    {k : PUnit → Prog (TpuEff nD τ sig (Elt F) Λ₀ .tc) PUnit} :
    iprop(records m ρ K ∗ cred (tallyAt (kcell c (some (i, j))) () N) ∗ (∃ W, owes (c : Thread nD τ) O W)
        ∗ MayWait (c : Thread nD τ) (csem (some (i, j))) () O ∗ atPos ER (kcell c (some (i, j))) 0 ∅ 0)
      ⊢ iprop((((∃ W, owes (c : Thread nD τ) O W) ∗ atPos ER (kcell c (some (i, j))) 1 ∅ 0 ∗ dmaPay m ρ c i j) -∗ WP c (k ⟨⟩) Q)
        -∗ WP c (.op (.waitDma2 (semAt a o h) src dst hsrc hdst) k) Q) := by
  subst e ha
  iintro ⟨#HR, Hc, ⟨%W, HO⟩, HM, Hat⟩ Hk
  iapply (Rounds.wp_wait_rest_token 𝒱₀ ER (ringRd m ρ) (c : Thread nD τ) none (κ := K (c, some (i, j)))
      (wpE_waitDma2_eq 𝒱₀ (c : Thread nD τ) none Set.univ) (Set.mem_univ _) () (O := O) (W := W) (R := 0) (m := 0) (T := ∅)
      (show 0 + dst.view.dmaCredit = (ringRd m ρ).expect (kcell c (some (i, j))) 0 by rw [Nat.zero_add, expect_dma m ρ i hj, hN])) $$ [Hc HO HM Hat]
  · isplitr; · iapply (inv_at m ρ K c (some (i, j))); iexact HR
    isplitl [Hc]; · rw [hN]; iexact Hc
    isplitl [HO]; · iexact HO
    isplitl [HM]; · iexact HM
    iexact Hat
  iintro ⟨HO, Hat, -, Hpay⟩
  ihave Hp := (show bigSep ((ringRd (F := F) m ρ).duties ((c : Thread nD τ), SemLoc.dma (dsem i j)) 0 \ ∅)
      (fun d => (ringRd (F := F) m ρ).payload ((c : Thread nD τ), SemLoc.dma (dsem i j)) 0 d) ⊢ dmaPay m ρ c i j from Entails.of_eq (rest_dma m ρ i hj)) $$ Hpay
  iapply Hk
  isplitl [HO]; · iexists _; iexact HO
  isplitl [Hat]; · iexact Hat
  iexact Hp

/-- The wait of the entry barrier: every peer's slot and block. -/
theorem wait_bar (O : CellTallies nD τ sig Unit) {k : PUnit → Prog (TpuEff nD τ sig (Elt F) Λ₀ .tc) PUnit} :
    iprop(records m ρ K ∗ cred (tallyAt (kcell c none) () 15) ∗ (∃ W, owes (c : Thread nD τ) O W)
        ∗ MayWait (c : Thread nD τ) (csem none) () O ∗ atPos ER (kcell c none) 0 ∅ 0)
      ⊢ iprop((((∃ W, owes (c : Thread nD τ) O W) ∗ atPos ER (kcell c none) 1 ∅ 0
          ∗ bigSep Finset.univ fun r : Fin 15 => iprop((∃ f, rP (pf c r) c f) ∗ (∃ f, oP (pf c r) c fullShare f))) -∗ WP c (k ⟨⟩) Q)
        -∗ WP c (.op (.semWait barS 15) k) Q) := by
  iintro ⟨#HR, Hc, ⟨%W, HO⟩, HM, Hat⟩ Hk
  iapply (Rounds.wp_wait_rest_token 𝒱₀ ER (ringRd m ρ) (c : Thread nD τ) none (κ := K (c, none))
      (wpE_semWait_eq 𝒱₀ (c : Thread nD τ) none Set.univ) (Set.mem_univ _) () (O := O) (W := W) (R := 0) (m := 0) (T := ∅)
      (show 0 + 15 = (ringRd m ρ).expect (kcell c none) 0 by rw [expect_bar])) $$ [Hc HO HM Hat]
  · isplitr; · iapply (inv_at m ρ K c none); iexact HR
    isplitl [Hc]; · iexact Hc
    isplitl [HO]; · iexact HO
    isplitl [HM]; · iexact HM
    iexact Hat
  iintro ⟨HO, Hat, -, Hpay⟩
  ihave Hp := (show bigSep ((ringRd (F := F) m ρ).duties ((c : Thread nD τ), SemLoc.reg barS) 0 \ ∅)
      (fun d => (ringRd (F := F) m ρ).payload ((c : Thread nD τ), SemLoc.reg barS) 0 d) ⊢ _ from Entails.of_eq ((rest_bar m ρ c).trans (barPay_pf c))) $$ Hpay
  iapply Hk
  isplitl [HO]; · iexists _; iexact HO
  isplitl [Hat]; · iexact Hat
  iexact Hp

end Ops

end Cert.KernelIdeal.Proto

end
-- ==== Proof.Steps.lean ====
module

public import proofs.«01_k».proof.Proof.Ops

/-! # One rule per loop of the body

A loop over the offsets takes a state that shrinks with the offsets still to come, and turns what each offset brings
into what it leaves. -/

@[expose] public section

noncomputable section

namespace Cert.KernelIdeal.Proto

open Cert.KernelIdeal Cert.KernelIdeal.Gen Cert.KernelIdeal.Loops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-! ## Loops -/

/-- A separating conjunction over a list, in order. -/
def sepL {α : Type} (A : α → sProp (MT nD τ sig Unit (Elt F) ℕ UU ℕ)) : List α → sProp (MT nD τ sig Unit (Elt F) ℕ UU ℕ)
  | [] => iprop(emp)
  | a :: l => iprop(A a ∗ sepL A l)

/-- Over a list without repetition it is the one over its elements. -/
theorem sepL_eq {α : Type} [DecidableEq α] (A : α → sProp (MT nD τ sig Unit (Elt F) ℕ UU ℕ)) : ∀ l : List α, l.Nodup → bigSep l.toFinset A = sepL A l
  | [], _ => bigSep_empty
  | a :: l, h => by
    rw [List.toFinset_cons, bigSep_insert (by rw [List.mem_toFinset]; exact (List.nodup_cons.mp h).1), sepL_eq A l (List.nodup_cons.mp h).2]
    rfl
/-- Over the fifteen offsets. -/
theorem sepL_offs (A : Fin 15 → sProp (MT nD τ sig Unit (Elt F) ℕ UU ℕ)) : sepL A offs = bigSep Finset.univ A := by
  rw [← sepL_eq A offs (by decide)]
  exact congrArg (bigSep · A) (by decide)

theorem wp_done (c : Dev nD) (Q : PUnit.{1} → sProp (MT nD τ sig Unit (Elt F) ℕ UU ℕ)) : Q ⟨⟩ ⊢ WP c (.ret ⟨⟩) Q := by
  unfold WP; rw [wp_ret]; exact fupd_intro

/-- The rule of a loop. -/
theorem wp_each {α : Type} (c : Dev nD) (f : α → Prog (TpuEff nD τ sig (Elt F) Λ₀ .tc) PUnit.{1})
    (J : List α → sProp (MT nD τ sig Unit (Elt F) ℕ UU ℕ)) (A B : α → sProp (MT nD τ sig Unit (Elt F) ℕ UU ℕ))
    (step : ∀ a l (Q : PUnit.{1} → sProp (MT nD τ sig Unit (Elt F) ℕ UU ℕ)), iprop(J (a :: l) ∗ A a) ⊢ iprop(((J l ∗ B a) -∗ Q ⟨⟩) -∗ WP c (f a) Q)) :
    ∀ l (Q : PUnit.{1} → sProp (MT nD τ sig Unit (Elt F) ℕ UU ℕ)), iprop(J l ∗ sepL A l) ⊢ iprop(((J [] ∗ sepL B l) -∗ Q ⟨⟩) -∗ WP c (each f l) Q)
  | [], Q => by
    iintro ⟨HJ, HA⟩ Hk
    iapply (show Q ⟨⟩ ⊢ WP c (each f []) Q from wp_done c Q)
    iapply Hk
    isplitl [HJ]; · iexact HJ
    iexact HA
  | a :: l, Q => by
    have hs : sepL A (a :: l) = iprop(A a ∗ sepL A l) := rfl
    rw [hs]
    iintro ⟨HJ, HA, HL⟩ Hk
    have hb : WP c (each f (a :: l)) Q = WP c (f a) (fun _ => WP c (each f l) Q) := wp_bind _ _ _ _ _ _
    rw [hb]
    iapply (step a l fun _ => WP c (each f l) Q) $$ [HJ HA]
    · isplitl [HJ] <;> iassumption
    iintro ⟨HJ, HB⟩
    iapply (wp_each c f J A B step l Q) $$ [HJ HL]
    · isplitl [HJ] <;> iassumption
    iintro ⟨HJ, HL⟩
    iapply Hk
    isplitl [HJ]; · iexact HJ
    iapply (show iprop(B a ∗ sepL B l) ⊢ sepL B (a :: l) from Entails.rfl)
    isplitl [HB]; · iexact HB
    iexact HL

/-- The rule over all offsets. -/
theorem wp_offs (c : Dev nD) (f : Fin 15 → Prog (TpuEff nD τ sig (Elt F) Λ₀ .tc) PUnit.{1})
    (J : List (Fin 15) → sProp (MT nD τ sig Unit (Elt F) ℕ UU ℕ)) (A B : Fin 15 → sProp (MT nD τ sig Unit (Elt F) ℕ UU ℕ))
    (step : ∀ a l (Q : PUnit.{1} → sProp (MT nD τ sig Unit (Elt F) ℕ UU ℕ)), iprop(J (a :: l) ∗ A a) ⊢ iprop(((J l ∗ B a) -∗ Q ⟨⟩) -∗ WP c (f a) Q))
    (Q : PUnit.{1} → sProp (MT nD τ sig Unit (Elt F) ℕ UU ℕ)) :
    iprop(J offs ∗ bigSep Finset.univ A) ⊢ iprop(((J [] ∗ bigSep Finset.univ B) -∗ Q ⟨⟩) -∗ WP c (each f offs) Q) := by
  rw [← sepL_offs, ← sepL_offs]
  exact wp_each c f J A B step offs Q

theorem each_map {α β : Type} (g : α → β) (f : β → Prog (TpuEff nD τ sig (Elt F) Λ₀ .tc) PUnit.{1}) : ∀ l : List α, each f (l.map g) = each (fun a => f (g a)) l
  | [] => rfl
  | a :: l => by
    show (f (g a) >>= fun _ => each f (l.map g)) = _
    rw [each_map g f l]; rfl

section Loops

variable {c : Dev nD} {Q : PUnit.{1} → sProp (MT nD τ sig Unit (Elt F) ℕ UU ℕ)}

/-- The device owes `O`, with some record of waits. -/
abbrev ow (c : Dev nD) (O : CellTallies nD τ sig Unit) : sProp (MT nD τ sig Unit (Elt F) ℕ UU ℕ) := iprop(∃ W, owes (c : Thread nD τ) O W)
/-- The device's position at a DMA cell of its own. -/
abbrev pos (c : Dev nD) (i : Fin 4) (j : Dev nD) (R : ℕ) : sProp (MT nD τ sig Unit (Elt F) ℕ UU ℕ) := atPos ER (kcell c (some (i, j))) R ∅ 0
/-- The credit of a DMA cell. -/
abbrev crd (c : Dev nD) (i : Fin 4) (j : Dev nD) : sProp (MT nD τ sig Unit (Elt F) ℕ UU ℕ) := cred (tallyAt (kcell c (some (i, j))) () N)

/-- The entry signals: to every peer its slot of the receive buffer and its block of the result. -/
theorem sig_loop (O : CellTallies nD τ sig Unit) :
    iprop((records m ρ K ∗ ow c (O + tl (barT c) offs))
        ∗ bigSep Finset.univ fun r => iprop(dutyTok ER (kcell (pf c r) none) 0 r ∗ (∃ f, rP c (pf c r) f) ∗ (∃ f, oP c (pf c r) fullShare f)))
      ⊢ iprop((ow c O -∗ Q ⟨⟩) -∗ WP c (each (fun r => sigStep (F := F) (pf c r)) offs) Q) := by
  iintro H Hk
  iapply (wp_offs c (fun r => sigStep (F := F) (pf c r)) (fun l => iprop(records m ρ K ∗ ow c (O + tl (barT c) l)))
    (fun r => iprop(dutyTok ER (kcell (pf c r) none) 0 r ∗ (∃ f, rP c (pf c r) f) ∗ (∃ f, oP c (pf c r) fullShare f))) (fun _ => iprop(emp))
    (fun r l Q => by
      unfold sigStep
      simp only [semSignalWord, Prog.lift, Prog.bind_op, Prog.bind_ret, Prog.pure_eq_ret]
      iintro ⟨⟨#HR, ⟨%W, HO⟩⟩, Ht, Hr, Ho⟩ Hk
      rw [tl_cons, ← add_assoc]
      iapply (signal m ρ K (c := c) r (O + tl (barT c) l) W) $$ [HO Ht Hr Ho]
      · isplitr; · iexact HR
        isplitl [HO]; · iexact HO
        isplitl [Ht]; · iexact Ht
        isplitl [Hr] <;> iassumption
      iintro HO
      iapply (wp_done c Q)
      iapply Hk
      isplitl
      · isplitr; · iexact HR
        iexists W; iexact HO
      iempintro) Q) $$ H
  iintro ⟨⟨-, HO⟩, -⟩
  iapply Hk
  rw [tl_nil, add_zero]
  iexact HO

/-- The copies of the reduction: the peer's block of the argument goes through the send buffer to the peer's slot. -/
theorem rs_loop (O : CellTallies nD τ sig Unit) :
    iprop((records m ρ K ∗ xP m ρ c ∗ ow c (O + tl (rsT c) offs))
        ∗ bigSep Finset.univ fun r => iprop((∃ f, bP c (pf c r) f) ∗ (∃ f, rP (pf c r) c f)
            ∗ dutyTok ER (kcell c (some (0, pf c r))) 0 0 ∗ dutyTok ER (kcell (pf c r) (some (1, c))) 0 0))
      ⊢ iprop(((xP m ρ c ∗ ow c O ∗ bigSep Finset.univ fun r => crd c 0 (pf c r)) -∗ Q ⟨⟩)
        -∗ WP c (each (fun r => rsStep (F := F) xM bM (Memref.isWhole_whole _) rM (Memref.isWhole_whole _) cc0_scratch3 cc0_scratch4 c (r, pf c r)) offs) Q) := by
  iintro H Hk
  iapply (wp_offs c (fun r => rsStep (F := F) xM bM (Memref.isWhole_whole _) rM (Memref.isWhole_whole _) cc0_scratch3 cc0_scratch4 c (r, pf c r))
    (fun l => iprop(records m ρ K ∗ xP m ρ c ∗ ow c (O + tl (rsT c) l)))
    (fun r => iprop((∃ f, bP c (pf c r) f) ∗ (∃ f, rP (pf c r) c f)
            ∗ dutyTok ER (kcell c (some (0, pf c r))) 0 0 ∗ dutyTok ER (kcell (pf c r) (some (1, c))) 0 0))
    (fun r => crd c 0 (pf c r))
    (fun r l Q => by
      unfold rsStep
      simp only [Prog.lift, Prog.bind_op, Prog.bind_ret, Prog.pure_eq_ret]
      iintro ⟨⟨#HR, Hx, ⟨%W, HO⟩⟩, ⟨%f, Hb⟩, ⟨%fd, Hr⟩, Ht0, Ht1⟩ Hk
      rw [tl_cons, ← add_assoc]
      iapply (load_x m ρ (c := c) (pf c r) (off1_eq c r)) $$ Hx; iintro Hx
      iapply (load_b (c := c) (pf c r) f (off1_eq c r)) $$ Hb; iintro %v Hb
      iapply (store_b (c := c) (pf c r) f _ (off1_eq c r)) $$ Hb; iintro %f' %hf Hb
      iapply (send_rs m ρ K (c := c) r f' hf fd (O + tl (rsT c) l) W (off5_eq c r) (off4_eq c) (off2_eq c r) (off3_eq c)) $$ [Hb Hr HO Ht0 Ht1]
      · isplitr; · iexact HR
        isplitl [Hb]; · iexact Hb
        isplitl [Hr]; · iexact Hr
        isplitl [HO]; · iexact HO
        isplitl [Ht0] <;> iassumption
      iintro ⟨Hc, HO⟩
      iapply (wp_done c Q)
      iapply Hk
      isplitl [Hx HO]
      · isplitr; · iexact HR
        isplitl [Hx]; · iexact Hx
        iexists W; iexact HO
      iexact Hc) Q) $$ H
  iintro ⟨⟨-, Hx, HO⟩, Hc⟩
  iapply Hk
  rw [tl_nil, add_zero]
  isplitl [Hx]; · iexact Hx
  isplitl [HO]; · iexact HO
  iexact Hc

/-- The arrivals of the reduction: each is waited for and added to the accumulator. -/
theorem acc_loop (O : CellTallies nD τ sig Unit) (hO : ∀ j, (levAts L lv : sProp (MT nD τ sig Unit (Elt F) ℕ UU ℕ)) ⊢ MayWait (c : Thread nD τ) (csem (some (1, j))) () O) :
    iprop((records m ρ K ∗ levAts L lv ∗ ow c O ∗ aP c (k0_pay17 (blkX m ρ c c)))
        ∗ bigSep Finset.univ fun r => iprop(crd c 1 (bk c r) ∗ pos c 1 (bk c r) 0))
      ⊢ iprop(((ow c O ∗ aP c (accF m ρ c) ∗ bigSep Finset.univ fun r => iprop(pos c 1 (bk c r) 1 ∗ rP c (bk c r) (rsF m ρ c))) -∗ Q ⟨⟩)
        -∗ WP c (each (accStep (F := F) aM rM (Memref.isWhole_whole _) cc0_scratch4 c) offs) Q) := by
  iintro ⟨⟨#HR, #HL, HO, Ha⟩, H⟩ Hk
  iapply (wp_offs c (accStep (F := F) aM rM (Memref.isWhole_whole _) cc0_scratch4 c)
    (fun l => iprop(records m ρ K ∗ levAts L lv ∗ ow c O ∗ ∃ A, ⌜accL m ρ c A l = accF m ρ c⌝ ∗ aP c A))
    (fun r => iprop(crd c 1 (bk c r) ∗ pos c 1 (bk c r) 0))
    (fun r => iprop(pos c 1 (bk c r) 1 ∗ rP c (bk c r) (rsF m ρ c)))
    (fun r l Q => by
      unfold accStep
      simp only [Prog.lift, Prog.bind_op, Prog.bind_ret, Prog.pure_eq_ret]
      iintro ⟨⟨#HR, #HL, HO, ⟨%A, %hA, Ha⟩⟩, Hc, Hp⟩ Hk
      iapply (wait_dma m ρ K (c := c) 1 (bk_ne c r) O (off7_eq c r) rfl (dst := slotAt rM (k0_off8 c (wd r)) (k0_off8_inb c r)) rfl) $$ [HO Hc Hp]
      · isplitr; · iexact HR
        isplitl [Hc]; · iexact Hc
        isplitl [HO]; · iexact HO
        isplitr; · iapply (hO (bk c r)); iexact HL
        iexact Hp
      iintro ⟨HO, Hp, Hr⟩
      unfold dmaPay
      iapply (load_a (c := c) A) $$ Ha; iintro Ha
      iapply (load_r m ρ (c := c) (bk c r) (off9_eq c r)) $$ Hr; iintro Hr
      iapply (load_a (c := c) A) $$ Ha; iintro Ha
      iapply (store_a (c := c) A _) $$ Ha; iintro Ha
      iapply (wp_done c Q)
      iapply Hk
      isplitl [HO Ha]
      · isplitr; · iexact HR
        isplitr; · iexact HL
        isplitl [HO]; · iexact HO
        iexists (k0_pay18 A (slotX m ρ c (bk c r))); isplitr
        · ipureintro
          rw [pay18_slot]
          exact hA
        iexact Ha
      isplitl [Hp] <;> iassumption) Q) $$ [HO Ha H]
  · isplitl [HO Ha]
    · isplitr; · iexact HR
      isplitr; · iexact HL
      isplitl [HO]; · iexact HO
      iexists _; isplitr
      · ipureintro; rfl
      iexact Ha
    iexact H
  iintro ⟨⟨-, -, HO, ⟨%A, %hA, Ha⟩⟩, H⟩
  have hA' : A = accF m ρ c := hA
  subst hA'
  iapply Hk
  isplitl [HO]; · iexact HO
  isplitl [Ha]; · iexact Ha
  iexact H

/-- The copies of the gathering: the device's own block to every peer, each lent a share. -/
theorem ag_loop :
    iprop((records m ρ K ∗ ow c (tl (agT c) offs))
        ∗ bigSep Finset.univ fun r => iprop(oP c c (shareTok fullShare 15 r) (outF m ρ) ∗ (∃ f, oP (pf c r) c fullShare f)
            ∗ dutyTok ER (kcell c (some (2, pf c r))) 0 0 ∗ dutyTok ER (kcell (pf c r) (some (3, c))) 0 0))
      ⊢ iprop(((ow c 0 ∗ bigSep Finset.univ fun r => crd c 2 (pf c r)) -∗ Q ⟨⟩)
        -∗ WP c (each (fun r => agStep (F := F) oM (Memref.isWhole_whole _) cc0_scratch5 cc0_scratch6 c (r, pf c r)) offs) Q) := by
  iintro H Hk
  iapply (wp_offs c (fun r => agStep (F := F) oM (Memref.isWhole_whole _) cc0_scratch5 cc0_scratch6 c (r, pf c r))
    (fun l => iprop(records m ρ K ∗ ow c (tl (agT c) l)))
    (fun r => iprop(oP c c (shareTok fullShare 15 r) (outF m ρ) ∗ (∃ f, oP (pf c r) c fullShare f)
            ∗ dutyTok ER (kcell c (some (2, pf c r))) 0 0 ∗ dutyTok ER (kcell (pf c r) (some (3, c))) 0 0))
    (fun r => crd c 2 (pf c r))
    (fun r l Q => by
      unfold agStep
      simp only [Prog.lift, Prog.bind_op, Prog.bind_ret, Prog.pure_eq_ret]
      iintro ⟨⟨#HR, ⟨%W, HO⟩⟩, Hb, ⟨%fd, Hr⟩, Ht0, Ht1⟩ Hk
      rw [tl_cons]
      iapply (send_ag m ρ K (c := c) r fd (tl (agT c) l) W (off10_eq c) (off2_eq c r) (off3_eq c)) $$ [Hb Hr HO Ht0 Ht1]
      · isplitr; · iexact HR
        isplitl [Hb]; · iexact Hb
        isplitl [Hr]; · iexact Hr
        isplitl [HO]; · iexact HO
        isplitl [Ht0] <;> iassumption
      iintro ⟨Hc, HO⟩
      iapply (wp_done c Q)
      iapply Hk
      isplitl [HO]
      · isplitr; · iexact HR
        iexists W; iexact HO
      iexact Hc) Q) $$ H
  iintro ⟨⟨-, HO⟩, Hc⟩
  iapply Hk
  rw [tl_nil]
  isplitl [HO]; · iexact HO
  iexact Hc

/-- A loop of waits on the cells of one array, owing nothing. -/
theorem wait_loop (i : Fin 4) (p : Fin 15 → Dev nD) (hp : ∀ r, p r ≠ c) (f : Fin 15 → Prog (TpuEff nD τ sig (Elt F) Λ₀ .tc) PUnit.{1})
    (hf : ∀ r (Q : PUnit.{1} → sProp (MT nD τ sig Unit (Elt F) ℕ UU ℕ)),
      iprop(records m ρ K ∗ crd c i (p r) ∗ ow c 0 ∗ MayWait (c : Thread nD τ) (csem (some (i, p r))) () 0 ∗ pos c i (p r) 0)
        ⊢ iprop(((ow c 0 ∗ pos c i (p r) 1 ∗ dmaPay m ρ c i (p r)) -∗ WP c (.ret ⟨⟩) Q) -∗ WP c (f r) Q)) :
    iprop((records m ρ K ∗ ow c 0) ∗ bigSep Finset.univ fun r => iprop(crd c i (p r) ∗ pos c i (p r) 0))
      ⊢ iprop(((ow c 0 ∗ bigSep Finset.univ fun r => iprop(pos c i (p r) 1 ∗ dmaPay m ρ c i (p r))) -∗ Q ⟨⟩) -∗ WP c (each f offs) Q) := by
  iintro H Hk
  iapply (wp_offs c f (fun l => iprop(records m ρ K ∗ ow c 0)) (fun r => iprop(crd c i (p r) ∗ pos c i (p r) 0))
    (fun r => iprop(pos c i (p r) 1 ∗ dmaPay m ρ c i (p r)))
    (fun r l Q => by
      iintro ⟨⟨#HR, HO⟩, Hc, Hp⟩ Hk
      iapply (hf r Q) $$ [HO Hc Hp]
      · isplitr; · iexact HR
        isplitl [Hc]; · iexact Hc
        isplitl [HO]; · iexact HO
        isplitr; · rw [MayWait_zero]; iempintro
        iexact Hp
      iintro ⟨HO, Hp, Hr⟩
      iapply (wp_done c Q)
      iapply Hk
      isplitl [HO]
      · isplitr; · iexact HR
        iexact HO
      isplitl [Hp] <;> iassumption) Q) $$ H
  iintro ⟨⟨-, HO⟩, H⟩
  iapply Hk
  isplitl [HO]; · iexact HO
  iexact H

/-- The arrivals of the gathering. -/
theorem agWait_loop :
    iprop((records m ρ K ∗ ow c 0) ∗ bigSep Finset.univ fun r => iprop(crd c 3 (bk c r) ∗ pos c 3 (bk c r) 0))
      ⊢ iprop(((ow c 0 ∗ bigSep Finset.univ fun r => iprop(pos c 3 (bk c r) 1 ∗ dmaPay m ρ c 3 (bk c r))) -∗ Q ⟨⟩)
        -∗ WP c (each (agWait (F := F) oM (Memref.isWhole_whole _) cc0_scratch6 c) offs) Q) :=
  wait_loop m ρ K 3 (bk c) (bk_ne c) _ fun r Q => by
    unfold agWait
    simp only [Prog.lift, Prog.bind_op, Prog.bind_ret, Prog.pure_eq_ret]
    exact wait_dma m ρ K (c := c) 3 (bk_ne c r) 0 (off7_eq c r) rfl (dst := rowsAt oM (k0_off11 c (wd r)) (k0_off11_inb c r)) rfl

/-- The send sides of the reduction. -/
theorem rsDone_loop :
    iprop((records m ρ K ∗ ow c 0) ∗ bigSep Finset.univ fun r => iprop(crd c 0 (pf c r) ∗ pos c 0 (pf c r) 0))
      ⊢ iprop(((ow c 0 ∗ bigSep Finset.univ fun r => iprop(pos c 0 (pf c r) 1 ∗ dmaPay m ρ c 0 (pf c r))) -∗ Q ⟨⟩)
        -∗ WP c (each (rsDone (F := F) bM (Memref.isWhole_whole _) rM (Memref.isWhole_whole _) cc0_scratch3 c) offs) Q) :=
  wait_loop m ρ K 0 (pf c) (pf_ne c) _ fun r Q => by
    unfold rsDone
    simp only [Prog.lift, Prog.bind_op, Prog.bind_ret, Prog.pure_eq_ret]
    exact wait_dma m ρ K (c := c) 0 (pf_ne c r) 0 (off2_eq c r) rfl (dst := rowsAt bM (k0_off5 c (wd r)) (k0_off5_inb c r)) rfl

/-- The send sides of the gathering. -/
theorem agDone_loop :
    iprop((records m ρ K ∗ ow c 0) ∗ bigSep Finset.univ fun r => iprop(crd c 2 (pf c r) ∗ pos c 2 (pf c r) 0))
      ⊢ iprop(((ow c 0 ∗ bigSep Finset.univ fun r => iprop(pos c 2 (pf c r) 1 ∗ dmaPay m ρ c 2 (pf c r))) -∗ Q ⟨⟩)
        -∗ WP c (each (agDone (F := F) oM (Memref.isWhole_whole _) cc0_scratch5 c) offs) Q) :=
  wait_loop m ρ K 2 (pf c) (pf_ne c) _ fun r Q => by
    unfold agDone
    simp only [Prog.lift, Prog.bind_op, Prog.bind_ret, Prog.pure_eq_ret]
    exact wait_dma m ρ K (c := c) 2 (pf_ne c r) 0 (off2_eq c r) rfl (dst := rowsAt oM (k0_off10 c) (k0_off10_inb c)) rfl

/-- The accumulator starts at the device's own block, whatever it held. -/
theorem acc_init (A : FVec F S64x512 .f32) :
    iprop(xP m ρ c ∗ aP c A) ⊢ iprop(((xP m ρ c ∗ aP c (k0_pay17 (blkX m ρ c c))) -∗ Q ⟨⟩) -∗ WP c (accInit (F := F) xM aM c) Q) := by
  unfold accInit
  simp only [Prog.lift, Prog.bind_op, Prog.bind_ret, Prog.pure_eq_ret]
  iintro ⟨Hx, Ha⟩ Hk
  iapply (load_x m ρ (c := c) c (off6_eq c)) $$ Hx; iintro Hx
  iapply (load_a (c := c) A) $$ Ha; iintro Ha
  iapply (store_a (c := c) A _) $$ Ha; iintro Ha
  iapply (wp_done c Q)
  iapply Hk
  isplitl [Hx] <;> iassumption

/-- The device's own block of the result is stored. -/
theorem epi (f : (cc0_stg1_0 : Ref sig .tc).ty.Contents (Elt F)) :
    iprop(aP c (accF m ρ c) ∗ oP c c fullShare f) ⊢ iprop(((aP c (accF m ρ c) ∗ oP c c fullShare (outF m ρ)) -∗ Q ⟨⟩)
      -∗ WP c (epiStep (F := F) oM (Memref.isWhole_whole _) aM c) Q) := by
  unfold epiStep
  simp only [Prog.lift, Prog.bind_op, Prog.bind_ret, Prog.pure_eq_ret]
  iintro ⟨Ha, Ho⟩ Hk
  iapply (load_a (c := c) (accF m ρ c)) $$ Ha; iintro Ha
  iapply (load_o (c := c) c f (off6_eq c)) $$ Ho; iintro %v Ho
  iapply (store_o m ρ (c := c) f (off6_eq c)) $$ Ho; iintro Ho
  iapply (wp_done c Q)
  iapply Hk
  isplitl [Ha] <;> iassumption

end Loops

end Cert.KernelIdeal.Proto

end
-- ==== Proof.Body.lean ====
module

public import proofs.«01_k».proof.Proof.Steps
public import proofs.«01_k».proof.Proof.Gen.KernelIdeal.Launch
public import proofs.«01_k».proof.Proof.Gen.KernelIdeal.Points

/-! # The body of one device

From what a device starts with to what it ends with: the loops one after the other, between them the blocks of the
buffers dealt to the offsets and gathered again. -/

@[expose] public section

noncomputable section

namespace Cert.KernelIdeal.Proto

open Cert.KernelIdeal Cert.KernelIdeal.Gen Cert.KernelIdeal.Loops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTokN shareTok shareDrop pointsTo_toks pointsTo_toks_split pointsTo_toks_join)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

/-- The tokens of the duties a device pays: its signal to each peer, the two sides of each of its copies. -/
def toks (c : Dev nD) : sProp (MT nD τ sig Unit (Elt F) ℕ UU ℕ) :=
  iprop((bigSep Finset.univ fun r : Fin 15 => dutyTok ER (kcell (pf c r) none) 0 r)
    ∗ (bigSep Finset.univ fun r : Fin 15 => dutyTok ER (kcell c (some (0, pf c r))) 0 0)
    ∗ (bigSep Finset.univ fun r : Fin 15 => dutyTok ER (kcell (pf c r) (some (1, c))) 0 0)
    ∗ (bigSep Finset.univ fun r : Fin 15 => dutyTok ER (kcell c (some (2, pf c r))) 0 0)
    ∗ (bigSep Finset.univ fun r : Fin 15 => dutyTok ER (kcell (pf c r) (some (3, c))) 0 0))

/-- The protocol's state at a device: the records, its position at each of its cells, its tokens. -/
def ghost (K : Dev nD × Cel → ℕ) (c : Dev nD) : sProp (MT nD τ sig Unit (Elt F) ℕ UU ℕ) :=
  iprop(records m ρ K ∗ atPos ER (kcell c none) 0 ∅ 0 ∗ (bigSep Finset.univ fun i : Fin 4 => bigSep Finset.univ fun j : Dev nD => pos c i j 0) ∗ toks c)

/-- The credits of a device at launch: its barrier's fifteen units, the arrivals of both phases. -/
def credits (c : Dev nD) : sProp (MT nD τ sig Unit (Elt F) ℕ UU ℕ) :=
  iprop(cred (tallyAt (kcell c none) () 15) ∗ (bigSep Finset.univ fun r => crd c 1 (bk c r)) ∗ (bigSep Finset.univ fun r => crd c 3 (bk c r)))

def start (c : Dev nD) : sProp (MT nD τ sig Unit (Elt F) ℕ UU ℕ) := iprop((∃ K, ghost m ρ K c) ∗ credits c ∗ levAts L lv)

/-- The three scratch buffers, each whole at some contents. -/
def scr (c : Dev nD) : sProp (MT nD τ sig Unit (Elt F) ℕ UU ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Before the body. -/
def Φ₀ (c : Dev nD) : sProp (MT nD τ sig Unit (Elt F) ℕ UU ℕ) := iprop(start m ρ c ∗ scr c)
/-- After the body: every counter at zero. -/
def Φ₁ (c : Dev nD) : sProp (MT nD τ sig Unit (Elt F) ℕ UU ℕ) :=
  iprop(scr c ∗ semVal (kcell c none) 0 ∗ bigSep Finset.univ fun i : Fin 4 => bigSep Finset.univ fun j : Dev nD => semVal (kcell c (some (i, j))) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Dealing the blocks -/

theorem bigSep_fin4 (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ

theorem at_some {α : Type} (Φ : α → sProp (MT nD τ sig Unit (Elt F) ℕ UU ℕ)) (a : α) : Φ a ⊢ iprop(∃ f, Φ f) := by
  iintro H; iexists a; iexact H

section Deal

variable (c : Dev nD)

theorem deal_sig (f2 : (cc0_scratch2 : Ref sig .tc).ty.Contents (Elt F)) (g1 : (cc0_stg1_0 : Ref sig .tc).ty.Contents (Elt F)) :
    iprop((bigSep Finset.univ fun r : Fin 15 => dutyTok ER (kcell (pf c r) none) 0 r)
        ∗ (((c : Thread nD τ).loc cc0_scratch2) ↦{fullShare} f2) ∗ (((c : Thread nD τ).loc cc0_stg1_0) ↦{fullShare} g1))
      ⊢ (iprop((bigSep Finset.univ fun r : Fin 15 => iprop(dutyTok ER (kcell (pf c r) none) 0 r ∗ (∃ f, rP c (pf c r) f) ∗ (∃ f, oP c (pf c r) fullShare f)))
        ∗ rP c c f2 ∗ oP c c fullShare g1) : sProp (MT nD τ sig Unit (Elt F) ℕ UU ℕ)) := by
  rw [r_split, o_split, bigSep_pf c, bigSep_pf c, bigSep_sep', bigSep_sep']
  iintro ⟨Ht, ⟨Hr, Hrs⟩, Ho, Hos⟩
  isplitl [Ht Hrs Hos]
  · isplitl [Ht]; · iexact Ht
    isplitl [Hrs]
    · iapply (show (bigSep Finset.univ fun r => rP c (pf c r) f2 : sProp (MT nD τ sig Unit (Elt F) ℕ UU ℕ)) ⊢ bigSep Finset.univ fun r => iprop(∃ f, rP c (pf c r) f)
        from bigSep_mono fun r _ => at_some (fun f => rP c (pf c r) f) f2)
      iexact Hrs
    · iapply (show (bigSep Finset.univ fun r => oP c (pf c r) fullShare g1 : sProp (MT nD τ sig Unit (Elt F) ℕ UU ℕ)) ⊢ bigSep Finset.univ fun r => iprop(∃ f, oP c (pf c r) fullShare f)
        from bigSep_mono fun r _ => at_some (fun f => oP c (pf c r) fullShare f) g1)
      iexact Hos
  isplitl [Hr] <;> iassumption

theorem deal_rs (f0 : (cc0_scratch0 : Ref sig .tc).ty.Contents (Elt F)) :
    iprop((((c : Thread nD τ).loc cc0_scratch0) ↦{fullShare} f0)
        ∗ (bigSep Finset.univ fun r : Fin 15 => iprop((∃ f, rP (pf c r) c f) ∗ (∃ f, oP (pf c r) c fullShare f)))
        ∗ (bigSep Finset.univ fun r : Fin 15 => dutyTok ER (kcell c (some (0, pf c r))) 0 0)
        ∗ (bigSep Finset.univ fun r : Fin 15 => dutyTok ER (kcell (pf c r) (some (1, c))) 0 0))
      ⊢ (iprop((bigSep Finset.univ fun r : Fin 15 => iprop((∃ f, bP c (pf c r) f) ∗ (∃ f, rP (pf c r) c f)
            ∗ dutyTok ER (kcell c (some (0, pf c r))) 0 0 ∗ dutyTok ER (kcell (pf c r) (some (1, c))) 0 0))
        ∗ bP c c f0 ∗ bigSep Finset.univ fun r : Fin 15 => iprop(∃ f, oP (pf c r) c fullShare f)) : sProp (MT nD τ sig Unit (Elt F) ℕ UU ℕ)) := by
  rw [b_split, bigSep_pf c, bigSep_sep', bigSep_sep', bigSep_sep', bigSep_sep']
  iintro ⟨⟨Hb, Hbs⟩, ⟨Hr, Ho⟩, Ht0, Ht1⟩
  isplitl [Hbs Hr Ht0 Ht1]
  · isplitl [Hbs]
    · iapply (show (bigSep Finset.univ fun r => bP c (pf c r) f0 : sProp (MT nD τ sig Unit (Elt F) ℕ UU ℕ)) ⊢ bigSep Finset.univ fun r => iprop(∃ f, bP c (pf c r) f)
        from bigSep_mono fun r _ => at_some (fun f => bP c (pf c r) f) f0)
      iexact Hbs
    isplitl [Hr]; · iexact Hr
    isplitl [Ht0] <;> iassumption
  isplitl [Hb] <;> iassumption

theorem deal_ag :
    iprop(oP c c fullShare (outF m ρ)
        ∗ (bigSep Finset.univ fun r : Fin 15 => iprop(∃ f, oP (pf c r) c fullShare f))
        ∗ (bigSep Finset.univ fun r : Fin 15 => dutyTok ER (kcell c (some (2, pf c r))) 0 0)
        ∗ (bigSep Finset.univ fun r : Fin 15 => dutyTok ER (kcell (pf c r) (some (3, c))) 0 0))
      ⊢ (iprop((bigSep Finset.univ fun r : Fin 15 => iprop(oP c c (shareTok fullShare 15 r) (outF m ρ) ∗ (∃ f, oP (pf c r) c fullShare f)
            ∗ dutyTok ER (kcell c (some (2, pf c r))) 0 0 ∗ dutyTok ER (kcell (pf c r) (some (3, c))) 0 0))
        ∗ oP c c (shareDrop fullShare 15) (outF m ρ)) : sProp (MT nD τ sig Unit (Elt F) ℕ UU ℕ)) := by
  rw [bigSep_sep', bigSep_sep', bigSep_sep']
  iintro ⟨Ho, Hos, Ht2, Ht3⟩
  unfold oP
  ihave H := (pointsTo_toks_split (ℓ := (oRow c).view.loc (c : Thread nD τ)) (S := (oRow c).view.set) (f := outF m ρ) fullShare 15) $$ Ho
  icases H with ⟨Hd, Hs⟩
  isplitl [Hs Hos Ht2 Ht3]
  · isplitl [Hs]; · iexact Hs
    isplitl [Hos]; · iexact Hos
    isplitl [Ht2] <;> iassumption
  iexact Hd

/-- The send buffer, whole again. -/
theorem gather_b (f0 : (cc0_scratch0 : Ref sig .tc).ty.Contents (Elt F)) :
    iprop(bP c c f0 ∗ bigSep Finset.univ fun r => dmaPay m ρ c 0 (pf c r))
      ⊢ (iprop(∃ f : Buf (Elt F) ((c : Thread nD τ).loc cc0_scratch0), ((c : Thread nD τ).loc cc0_scratch0) ↦{fullShare} f) : sProp (MT nD τ sig Unit (Elt F) ℕ UU ℕ)) := by
  refine BI.Entails.trans ?_ (b_join c)
  rw [bigSep_pf c]
  exact sep_mono_left (at_some (fun f => bP c c f) f0)

/-- The receive buffer, whole again. -/
theorem gather_r (f2 : (cc0_scratch2 : Ref sig .tc).ty.Contents (Elt F)) :
    iprop(rP c c f2 ∗ bigSep Finset.univ fun r => rP c (bk c r) (rsF m ρ c))
      ⊢ (iprop(∃ f : Buf (Elt F) ((c : Thread nD τ).loc cc0_scratch2), ((c : Thread nD τ).loc cc0_scratch2) ↦{fullShare} f) : sProp (MT nD τ sig Unit (Elt F) ℕ UU ℕ)) := by
  refine BI.Entails.trans ?_ (r_join c)
  rw [bigSep_bk c]
  exact BI.sep_mono (at_some (fun f => rP c c f) f2) (bigSep_mono fun r _ => at_some (fun f => rP c (bk c r) f) (rsF m ρ c))

/-- The result buffer, whole, holding the result. -/
theorem gather_o :
    iprop(oP c c (shareDrop fullShare 15) (outF m ρ) ∗ (bigSep Finset.univ fun r => dmaPay m ρ c 2 (pf c r)) ∗ bigSep Finset.univ fun r => dmaPay m ρ c 3 (bk c r))
      ⊢ ((((c : Thread nD τ).loc cc0_stg1_0) ↦{fullShare} outF m ρ) : sProp (MT nD τ sig Unit (Elt F) ℕ UU ℕ)) := by
  rw [o_split, bigSep_bk c]
  have e : (bigSep Finset.univ fun r => dmaPay m ρ c 2 (pf c r) : sProp (MT nD τ sig Unit (Elt F) ℕ UU ℕ))
      = bigSep Finset.univ fun r : Fin 15 => oP c c (shareTok fullShare 15 r) (outF m ρ) :=
    bigSep_congr fun r _ => by show oP c c (shareTokN fullShare (ix c (pf c r))) (outF m ρ) = _; rw [ix_pf]
  rw [e]
  iintro ⟨Hd, Hs, H3⟩
  isplitl [Hd Hs]
  · unfold oP
    iapply (pointsTo_toks_join (ℓ := (oRow c).view.loc (c : Thread nD τ)) (S := (oRow c).view.set) (f := outF m ρ) fullShare 15)
    isplitl [Hd] <;> iassumption
  iexact H3

/-- The cells of one array close: their counters are at zero. -/
theorem close_row (K : Dev nD × Cel → ℕ) (i : Fin 4) (p : Fin 15 → Dev nD)
    (hp : ∀ Φ : Dev nD → sProp (MT nD τ sig Unit (Elt F) ℕ UU ℕ), bigSep Finset.univ Φ = iprop(Φ c ∗ bigSep Finset.univ fun r => Φ (p r))) :
    iprop(records m ρ K ∗ pos c i c 0 ∗ bigSep Finset.univ fun r => pos c i (p r) 1)
      ⊢ |={Set.univ}=> (bigSep Finset.univ fun j : Dev nD => semVal (kcell c (some (i, j))) 0 : sProp (MT nD τ sig Unit (Elt F) ℕ UU ℕ)) := by
  rw [hp]
  iintro ⟨#HR, Hc, Hs⟩
  imod (Rounds.cell_close ER (ringRd m ρ) (g := kcell c (some (i, c))) (Set.mem_univ (K (c, some (i, c)))) (fun h => h) (R := 0) (duties_own m ρ c i)) $$ [Hc] with Hz
  · isplitr; · iapply (inv_at m ρ K c (some (i, c))); iexact HR
    iexact Hc
  imod (show iprop(records m ρ K ∗ bigSep Finset.univ fun r => pos c i (p r) 1)
      ⊢ (|={Set.univ}=> bigSep Finset.univ fun r => semVal (kcell c (some (i, p r))) 0 : sProp (MT nD τ sig Unit (Elt F) ℕ UU ℕ)) from by
        refine (sep_mono_left (BI.bigSep_of_persistent (Finset.univ : Finset (Fin 15)) (records m ρ K))).trans ?_
        rw [← bigSep_sep']
        refine (bigSep_mono fun r _ => ?_).trans (bigSep_fupd _ _)
        refine (sep_mono_left (inv_at m ρ K c (some (i, p r)))).trans ?_
        exact Rounds.cell_close ER (ringRd m ρ) (g := kcell c (some (i, p r))) (Set.mem_univ (K (c, some (i, p r)))) (fun h => h) (R := 0 + 1) (duties_later m ρ _)) $$ [Hs] with Hzs
  · isplitr; · iexact HR
    iexact Hs
  imodintro
  isplitl [Hz] <;> iassumption

end Deal

/-! ## The body -/

section Body

variable (K : Dev nD × Cel → ℕ)

theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

def bodyPre (c : Dev nD) : sProp (MT nD τ sig Unit (Elt F) ℕ UU ℕ) :=
  iprop((ghost m ρ K c ∗ credits c ∗ levAts L lv ∗ scr c)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp (MT nD τ sig Unit (Elt F) ℕ UU ℕ) :=
  iprop(Φ₁ c ∗ (dats m ρ 0 c).owesAt () t0_0.succ ∗ stg c cc0_stg0_0 (xstg m ρ c) ∗ stg c cc0_stg1_0 (outF m ρ))

theorem wp_seq (c : Dev nD) (p q : Prog (TpuEff nD τ sig (Elt F) Λ₀ .tc) PUnit.{1}) (Q : PUnit.{1} → sProp (MT nD τ sig Unit (Elt F) ℕ UU ℕ)) :
    WP c p (fun _ => WP c q Q) ⊢ WP c (p >>= fun _ => q) Q := by
  unfold WP; rw [wp_bind]
theorem wp_late (c : Dev nD) (p : Prog (TpuEff nD τ sig (Elt F) Λ₀ .tc) PUnit.{1}) (Q : PUnit.{1} → sProp (MT nD τ sig Unit (Elt F) ℕ UU ℕ)) :
    WP c p (fun a => iprop(|={Set.univ}=> Q a)) ⊢ WP c p Q := wp_fupd _ _ _ _ _

set_option maxHeartbeats 1600000 in
/-- The body run from what the device starts with, one loop after the other, to what it ends with. -/
theorem sound_body (c : Dev nD) (Kt : PUnit.{1} → sProp (MT nD τ sig Unit (Elt F) ℕ UU ℕ)) :
    iprop(bodyPre m ρ K c ∗ (bodyPost m ρ c -∗ Kt ⟨⟩))
      ⊢ WP c (Loops.body xM (Memref.isWhole_whole _) oM (Memref.isWhole_whole _) bM (Memref.isWhole_whole _) aM (Memref.isWhole_whole _)
          rM (Memref.isWhole_whole _) cc0_scratch3 cc0_scratch4 cc0_scratch5 cc0_scratch6) Kt := by
  unfold Loops.body
  simp only [semWaitWord, Prog.lift, Prog.bind_op, Prog.bind_ret, Prog.pure_eq_ret, wp_deviceId]
  rw [sigDevs_eq, rsDevs_eq, agDevs_eq]
  simp only [each_map]
  unfold bodyPre ghost credits scr toks
  rw [bigSep_fin4]
  iintro ⟨⟨⟨⟨#HR, HatB, ⟨Hp0, Hp1, Hp2, Hp3⟩, HtB, Ht0, Ht1, Ht2, Ht3⟩, ⟨HcB, Hc1, Hc3⟩, #Hlev, ⟨%f0, Hb⟩, ⟨%A0, Ha⟩, ⟨%f2, Hr⟩⟩,
    Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = tl (agT c) offs + tl (rsT c) offs + tl (barT c) offs from rfl]
  ihave Hp0 := (show (bigSep Finset.univ fun j => pos c 0 j 0 : sProp (MT nD τ sig Unit (Elt F) ℕ UU ℕ)) ⊢ _ from Entails.of_eq (bigSep_pf c _)) $$ Hp0
  ihave Hp1 := (show (bigSep Finset.univ fun j => pos c 1 j 0 : sProp (MT nD τ sig Unit (Elt F) ℕ UU ℕ)) ⊢ _ from Entails.of_eq (bigSep_bk c _)) $$ Hp1
  ihave Hp2 := (show (bigSep Finset.univ fun j => pos c 2 j 0 : sProp (MT nD τ sig Unit (Elt F) ℕ UU ℕ)) ⊢ _ from Entails.of_eq (bigSep_pf c _)) $$ Hp2
  ihave Hp3 := (show (bigSep Finset.univ fun j => pos c 3 j 0 : sProp (MT nD τ sig Unit (Elt F) ℕ UU ℕ)) ⊢ _ from Entails.of_eq (bigSep_bk c _)) $$ Hp3
  icases Hp0 with ⟨Hp0, Hq0⟩
  icases Hp1 with ⟨Hp1, Hq1⟩
  icases Hp2 with ⟨Hp2, Hq2⟩
  icases Hp3 with ⟨Hp3, Hq3⟩
  -- the entry signals
  ihave H := (deal_sig c f2 g1) $$ [HtB Hr Hout]
  · isplitl [HtB]; · iexact HtB
    isplitl [Hr] <;> iassumption
  icases H with ⟨HS, Hrc, Hoc⟩
  iapply (wp_seq c _ _ _)
  iapply (sig_loop m ρ K (c := c) (tl (agT c) offs + tl (rsT c) offs)) $$ [HO HS]
  · isplitl [HO]
    · isplitr; · iexact HR
      iexists W; iexact HO
    iexact HS
  iintro HO
  -- the entry wait
  iapply (wait_bar m ρ K (c := c) (tl (agT c) offs + tl (rsT c) offs)) $$ [HcB HO HatB]
  · isplitr; · iexact HR
    isplitl [HcB]; · iexact HcB
    isplitl [HO]; · iexact HO
    isplitr; · iapply (mayWait_bar c); iexact Hlev
    iexact HatB
  iintro ⟨HO, HatB, HP⟩
  -- the copies of the reduction
  ihave H := (deal_rs c f0) $$ [Hb HP Ht0 Ht1]
  · isplitl [Hb]; · iexact Hb
    isplitl [HP]; · iexact HP
    isplitl [Ht0] <;> iassumption
  icases H with ⟨HS, Hbc, HP⟩
  iapply (wp_seq c _ _ _)
  iapply (rs_loop m ρ K (c := c) (tl (agT c) offs)) $$ [HO HS Hx]
  · isplitl [HO Hx]
    · isplitr; · iexact HR
      isplitl [Hx]; · unfold xP; iexact Hx
      iexact HO
    iexact HS
  iintro ⟨Hx, HO, Hc0⟩
  -- the accumulation
  iapply (wp_seq c _ _ _)
  iapply (acc_init m ρ (c := c) A0) $$ [Hx Ha]
  · isplitl [Hx]; · iexact Hx
    unfold aP; iexact Ha
  iintro ⟨Hx, Ha⟩
  iapply (wp_seq c _ _ _)
  iapply (acc_loop m ρ K (c := c) (tl (agT c) offs) (mayWait_rs c)) $$ [HO Ha Hc1 Hq1]
  · isplitl [HO Ha]
    · isplitr; · iexact HR
      isplitr; · iexact Hlev
      isplitl [HO] <;> iassumption
    rw [bigSep_sep']
    isplitl [Hc1] <;> iassumption
  rw [bigSep_sep']
  iintro ⟨HO, Ha, Hq1, Hrs⟩
  -- the device's own block of the result
  iapply (wp_seq c _ _ _)
  iapply (epi m ρ (c := c) g1) $$ [Ha Hoc]
  · isplitl [Ha] <;> iassumption
  iintro ⟨Ha, Hoc⟩
  -- the copies of the gathering
  ihave H := (deal_ag m ρ c) $$ [Hoc HP Ht2 Ht3]
  · isplitl [Hoc]; · iexact Hoc
    isplitl [HP]; · iexact HP
    isplitl [Ht2] <;> iassumption
  icases H with ⟨HS, Hoc⟩
  iapply (wp_seq c _ _ _)
  iapply (ag_loop m ρ K (c := c)) $$ [HO HS]
  · isplitl [HO]
    · isplitr; · iexact HR
      iexact HO
    iexact HS
  iintro ⟨HO, Hc2⟩
  -- the waits
  iapply (wp_seq c _ _ _)
  iapply (agWait_loop m ρ K (c := c)) $$ [HO Hc3 Hq3]
  · isplitl [HO]
    · isplitr; · iexact HR
      iexact HO
    rw [bigSep_sep']
    isplitl [Hc3] <;> iassumption
  rw [bigSep_sep']
  iintro ⟨HO, Hq3, Ho3⟩
  iapply (wp_seq c _ _ _)
  iapply (rsDone_loop m ρ K (c := c)) $$ [HO Hc0 Hq0]
  · isplitl [HO]
    · isplitr; · iexact HR
      iexact HO
    rw [bigSep_sep']
    isplitl [Hc0] <;> iassumption
  rw [bigSep_sep']
  iintro ⟨HO, Hq0, Hb0⟩
  iapply (wp_late c _ _)
  iapply (agDone_loop m ρ K (c := c)) $$ [HO Hc2 Hq2]
  · isplitl [HO]
    · isplitr; · iexact HR
      iexact HO
    rw [bigSep_sep']
    isplitl [Hc2] <;> iassumption
  rw [bigSep_sep']
  iintro ⟨HO, Hq2, Ho2⟩
  -- the cells close
  imod (close_row m ρ c K 0 (pf c) (bigSep_pf c)) $$ [Hp0 Hq0] with Hz0
  · isplitr; · iexact HR
    isplitl [Hp0] <;> iassumption
  imod (close_row m ρ c K 1 (bk c) (bigSep_bk c)) $$ [Hp1 Hq1] with Hz1
  · isplitr; · iexact HR
    isplitl [Hp1] <;> iassumption
  imod (close_row m ρ c K 2 (pf c) (bigSep_pf c)) $$ [Hp2 Hq2] with Hz2
  · isplitr; · iexact HR
    isplitl [Hp2] <;> iassumption
  imod (close_row m ρ c K 3 (bk c) (bigSep_bk c)) $$ [Hp3 Hq3] with Hz3
  · isplitr; · iexact HR
    isplitl [Hp3] <;> iassumption
  imod (Rounds.cell_close ER (ringRd m ρ) (g := kcell c none) (Set.mem_univ (K (c, none))) (fun h => h) (R := 0 + 1) (duties_later m ρ _)) $$ [HatB] with HzB
  · isplitr; · iapply (inv_at m ρ K c none); iexact HR
    iexact HatB
  imodintro
  iapply Hk
  unfold bodyPost Φ₁ scr Dat.owesAt Pipeline.owesWithin
  rw [show (dats m ρ 0 c).owed t0_0.succ = 0 from rfl, bigSep_fin4]
  isplitl [Hbc Hb0 Ha Hrc Hrs HzB Hz0 Hz1 Hz2 Hz3]
  · isplitl [Hbc Hb0 Ha Hrc Hrs]
    · isplitl [Hbc Hb0]
      · iapply (gather_b m ρ c f0); isplitl [Hbc] <;> iassumption
      isplitl [Ha]; · iexists (accF m ρ c); unfold aP; iexact Ha
      iapply (gather_r m ρ c f2); isplitl [Hrc] <;> iassumption
    isplitl [HzB]; · iexact HzB
    isplitl [Hz0]; · iexact Hz0
    isplitl [Hz1]; · iexact Hz1
    isplitl [Hz2] <;> iassumption
  isplitl [HO]
  · icases HO with ⟨%W', HO⟩
    iexists W'
    isplitr; · ipureintro; exact fun _ _ => Or.inl trivial
    iexact HO
  isplitl [Hx]
  · iexists _; isplitr; · (ipureintro; rfl)
    unfold xP; iexact Hx
  iexists _; isplitr; · (ipureintro; rfl)
  iapply (gather_o m ρ c)
  isplitl [Hoc]; · iexact Hoc
  isplitl [Ho2] <;> iassumption

def bodyPre' (c : Dev nD) : sProp (MT nD τ sig Unit (Elt F) ℕ UU ℕ) :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 65536 in
/-- The pipeline's obligation for the body, on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ WP c (cc0_body xM (Memref.isWhole_whole _) oM (Memref.isWhole_whole _) bM (Memref.isWhole_whole _) aM (Memref.isWhole_whole _)
          rM (Memref.isWhole_whole _) cc0_scratch3 cc0_scratch4 cc0_scratch5 cc0_scratch6) (fun _ => bodyPost m ρ c)
  rw [body_eq]
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    isplitl [Ho]; · iexact Ho
    isplitl [Hx] <;> iassumption
  · iintro H; iexact H

end Body

end Cert.KernelIdeal.Proto

end
-- ==== Proof.Launch.lean ====
module

public import proofs.«01_k».proof.Proof.Body
public import Idealize.ShloMosaic.Lib.Pipeline.Launch
public import Idealize.ShloMosaic.Lib.Pipeline.ValueKit
public import Idealize.ShloMosaic.Lib.Pipeline.CollectiveSegs
public import proofs.«01_k».proof.Proof.Gen.KernelIdeal.Launch
public import proofs.«01_k».proof.Proof.Gen.KernelIdeal.Points

/-! # The launch and the run

The cells' invariants are made for all devices at once, the duty tokens are dealt to the devices that pay them, and the
launch credit of a device is what its peers owe its cells. From that and the body: every run of the program ends, with
every device's result array at the computed contents, its argument as it was and every counter at zero. -/

@[expose] public section

noncomputable section

namespace Cert.KernelIdeal.Proto

open Cert.KernelIdeal Cert.KernelIdeal.Gen Cert.KernelIdeal.Loops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTokN shareTok shareDrop pointsTo_toks pointsTo_toks_split pointsTo_toks_join)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by
  refine ⟨by decide +kernel, fun a b h => ?_, by decide +kernel⟩
  exact Option.some.inj (csem_inj (a₁ := some a) (a₂ := some b) h)

theorem share_eq (c : Dev nD) (w : Fin cfg0.W) : (dats m ρ 0 c).share w = fullShare := by unfold Dat.share; split <;> rfl

/-- Cell `ck.2` of device `ck.1`. -/
abbrev cellAt (ck : Dev nD × Cel) : GSem nD τ sig := kcell ck.1 ck.2
theorem cellAt_injective : Function.Injective cellAt := fun a b h => Prod.ext (kcell_inj h).1 (kcell_inj h).2
def ringCells : Finset (GSem nD τ sig) := Finset.univ.map ⟨cellAt, cellAt_injective⟩

/-- The tokens a device pays with: per kind and offset, the cell and the duty. -/
abbrev keyOf (x : Dev nD × Fin 5 × Fin 15) : (Dev nD × Cel) × Fin 15 := match x.2.1 with
  | 0 => ((pf x.1 x.2.2, none), x.2.2)
  | 1 => ((x.1, some (0, pf x.1 x.2.2)), 0)
  | 2 => ((pf x.1 x.2.2, some (1, x.1)), 0)
  | 3 => ((x.1, some (2, pf x.1 x.2.2)), 0)
  | 4 => ((pf x.1 x.2.2, some (3, x.1)), 0)
theorem keyOf_injective : Function.Injective keyOf := by
  rintro ⟨c, a, r⟩ ⟨c', a', r'⟩ h
  have h1 : (keyOf (c, a, r)).1.1 = (keyOf (c', a', r')).1.1 := by rw [h]
  have h2 : (keyOf (c, a, r)).1.2 = (keyOf (c', a', r')).1.2 := by rw [h]
  have h3 : (keyOf (c, a, r)).2 = (keyOf (c', a', r')).2 := by rw [h]
  fin_cases a <;> fin_cases a'
  all_goals try (exfalso; revert h2; simp [keyOf]; done)
  · have e : r = r' := h3
    have e1 : pf c r = pf c' r' := h1
    subst e
    have e2 : c = c' := by rw [← bk_pf c r, e1, bk_pf]
    subst e2; rfl
  · have e : c = c' := h1
    subst e
    have e1 : pf c r = pf c r' := (Prod.mk.inj (Option.some.inj h2)).2
    rw [pf_inj c e1]
  · have e : c = c' := (Prod.mk.inj (Option.some.inj h2)).2
    subst e
    have e1 : pf c r = pf c r' := h1
    rw [pf_inj c e1]
  · have e : c = c' := h1
    subst e
    have e1 : pf c r = pf c r' := (Prod.mk.inj (Option.some.inj h2)).2
    rw [pf_inj c e1]
  · have e : c = c' := (Prod.mk.inj (Option.some.inj h2)).2
    subst e
    have e1 : pf c r = pf c r' := h1
    rw [pf_inj c e1]
abbrev tokOf (x : Dev nD × Fin 5 × Fin 15) : GSem nD τ sig × ℕ × Fin 15 := (cellAt (keyOf x).1, 0, (keyOf x).2)
theorem tokOf_injective : Function.Injective tokOf := fun a b h => by
  have h1 : cellAt (keyOf a).1 = cellAt (keyOf b).1 := congrArg (fun x : GSem nD τ sig × ℕ × Fin 15 => x.1) h
  have h2 : (keyOf a).2 = (keyOf b).2 := congrArg (fun x : GSem nD τ sig × ℕ × Fin 15 => x.2.2) h
  exact keyOf_injective (Prod.ext (cellAt_injective h1) h2)
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- What the launch element deals device `c`: its cells' states, its positions and marks, the tokens it pays with. -/
def G (c : Dev nD) : sProp (MT nD τ sig Unit (Elt F) ℕ UU ℕ) :=
  iprop((bigSep Finset.univ fun k : Cel => roundState ER (ringRd m ρ) (kcell c k) 0)
    ∗ (bigSep Finset.univ fun k : Cel => iprop(atPos ER (kcell c k) 0 ∅ 0 ∗ reached ER (kcell c k) 0)) ∗ toks c)
/-- What the global step makes of it. -/
def G' (c : Dev nD) : sProp (MT nD τ sig Unit (Elt F) ℕ UU ℕ) := iprop(∃ K, ghost m ρ K c)

theorem bigSep_fin5 (Φ : Fin 5 → sProp (MT nD τ sig Unit (Elt F) ℕ UU ℕ)) : bigSep Finset.univ Φ = iprop(Φ 0 ∗ Φ 1 ∗ Φ 2 ∗ Φ 3 ∗ Φ 4) :=
  bigSep_univ_eq_bigSepL [0, 1, 2, 3, 4] (by decide) (by decide) Φ

theorem univ_cel : (Finset.univ : Finset Cel) = insert none (Finset.univ.map Function.Embedding.some) := by decide +kernel
/-- Over the cells of a device: the barrier's, and the DMA cells array by array. -/
theorem bigSep_cel (Φ : Cel → sProp (MT nD τ sig Unit (Elt F) ℕ UU ℕ)) :
    bigSep Finset.univ Φ = iprop(Φ none ∗ bigSep Finset.univ fun i : Fin 4 => bigSep Finset.univ fun j : Dev nD => Φ (some (i, j))) := by
  rw [univ_cel, bigSep_insert (fun h => by obtain ⟨a, -, e⟩ := Finset.mem_map.mp h; cases e), bigSep_map, bigSep_univ_prod]
  rfl

theorem fund_ring : BI.own (ER (initOf ringCells ringToks)) ⊢ (|==> bigSep Finset.univ (G m ρ) : sProp (MT nD τ sig Unit (Elt F) ℕ UU ℕ)) := by
  have hX (Φ : GSem nD τ sig → sProp (MT nD τ sig Unit (Elt F) ℕ UU ℕ)) :
      bigSep ringCells Φ = bigSep Finset.univ fun c : Dev nD => bigSep Finset.univ fun k : Cel => Φ (kcell c k) := by
    unfold ringCells; rw [bigSep_map, bigSep_univ_prod]; rfl
  have hT : bigSep ringToks (fun x => (dutyTok ER x.1 x.2.1 x.2.2 : sProp (MT nD τ sig Unit (Elt F) ℕ UU ℕ))) = bigSep Finset.univ fun c : Dev nD => toks c := by
    unfold ringToks; rw [bigSep_map, bigSep_univ_prod]
    exact bigSep_congr fun c _ => by unfold toks; rw [bigSep_univ_prod, bigSep_fin5]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

theorem ownSems0_eq (c : Dev nD) : (Pipeline.ownSems0 (Ix := Unit) (Name := ℕ) (U := UU) (Lvl := ℕ) (Val := Elt F) (τ := τ) osem c : sProp (MT nD τ sig Unit (Elt F) ℕ UU ℕ))
    = bigSep Finset.univ fun i : Fin 4 => bigSep Finset.univ fun j : Dev nD => semVal (kcell c (some (i, j))) 0 := by
  unfold Pipeline.ownSems0
  rw [bigSep_univ_prod]
  rfl
theorem unscopedSems0_eq (c : Dev nD) : (unscopedSems0 c : sProp (MT nD τ sig Unit (Elt F) ℕ UU ℕ)) = semVal (kcell c none) 0 := by
  unfold unscopedSems0; rw [bigSep_eq_bigSepL_of_eq [SemLoc.reg barS] (by decide +kernel) (by decide +kernel)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cel => iprop(∃ κ : ℕ, cellInv ER (ringRd m ρ) κ (kcell c k)))
          ∗ (bigSep Finset.univ fun k : Cel => iprop(atPos ER (kcell c k) 0 ∅ 0 ∗ reached ER (kcell c k) 0)) ∗ toks c) := by
  rw [ownSems0_eq, unscopedSems0_eq]
  unfold G
  iintro ⟨Hos, Hus, Hst, Hat, Htok⟩
  ihave Hv := (show iprop(semVal (kcell c none) 0 ∗ bigSep Finset.univ fun i : Fin 4 => bigSep Finset.univ fun j : Dev nD => semVal (kcell c (some (i, j))) 0)
      ⊢ (bigSep Finset.univ fun k : Cel => semVal (kcell c k) 0 : sProp (MT nD τ sig Unit (Elt F) ℕ UU ℕ)) from Entails.of_eq (bigSep_cel (F := F) fun k => semVal (kcell c k) 0).symm) $$ [Hos Hus]
  · isplitl [Hus] <;> iassumption
  imod (show iprop((bigSep Finset.univ fun k : Cel => semVal (kcell c k) 0) ∗ bigSep Finset.univ fun k : Cel => roundState ER (ringRd m ρ) (kcell c k) 0)
      ⊢ (|={Set.univ}=> bigSep Finset.univ fun k : Cel => iprop(∃ κ : ℕ, cellInv ER (ringRd m ρ) κ (kcell c k)) : sProp (MT nD τ sig Unit (Elt F) ℕ UU ℕ)) from by
        rw [← bigSep_sep']
        exact (bigSep_mono fun k _ => (Rounds.body_intro ER (ringRd m ρ) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions and the tokens it pays with. -/
def linear (c : Dev nD) : sProp (MT nD τ sig Unit (Elt F) ℕ UU ℕ) := iprop((bigSep Finset.univ fun k : Cel => atPos ER (kcell c k) 0 ∅ 0) ∗ toks c)

theorem ghost_intro (K : Dev nD × Cel → ℕ) (c : Dev nD) : iprop(records m ρ K ∗ linear c) ⊢ G' m ρ c := by
  unfold linear G' ghost
  rw [bigSep_cel]
  iintro ⟨HR, ⟨HB, Hp⟩, Ht⟩
  iexists K
  isplitl [HR]; · iexact HR
  isplitl [HB]; · iexact HB
  isplitl [Hp] <;> iassumption

theorem bigSep_with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cel => iprop(∃ κ : ℕ, cellInv ER (ringRd m ρ) κ (kcell c k)))
          ∗ (bigSep Finset.univ fun k : Cel => iprop(atPos ER (kcell c k) 0 ∅ 0 ∗ reached ER (kcell c k) 0)) ∗ toks c) : sProp (MT nD τ sig Unit (Elt F) ℕ UU ℕ))
      ⊢ bigSep Finset.univ (G' m ρ) := by
  rw [bigSep_sep', bigSep_sep', ← bigSep_univ_prod (fun ck : Dev nD × Cel => iprop(∃ κ : ℕ, cellInv ER (ringRd m ρ) κ (kcell ck.1 ck.2))),
    bigSep_congr (s := Finset.univ) (fun (c : Dev nD) _ => bigSep_sep' Finset.univ (fun k : Cel => (atPos ER (kcell c k) 0 ∅ 0 : sProp (MT nD τ sig Unit (Elt F) ℕ UU ℕ))) (fun k => reached ER (kcell c k) 0)),
    bigSep_sep', ← bigSep_univ_prod (fun ck : Dev nD × Cel => (reached ER (kcell ck.1 ck.2) 0 : sProp (MT nD τ sig Unit (Elt F) ℕ UU ℕ)))]
  iintro ⟨HI, ⟨Hat, #HR⟩, Htok⟩
  ihave HK := (BI.bigSep_exists_pi Finset.univ (fun (ck : Dev nD × Cel) (κ : ℕ) => (cellInv ER (ringRd m ρ) κ (kcell ck.1 ck.2) : sProp (MT nD τ sig Unit (Elt F) ℕ UU ℕ)))) $$ HI
  icases HK with ⟨%K, #HI⟩
  iapply (bigSep_with_persistent (R := records m ρ K) fun c _ => ghost_intro m ρ K c)
  isplitr
  · unfold records; isplitl; · iexact HI
    iexact HR
  · unfold linear
    rw [bigSep_sep']
    isplitl [Hat]; · iexact Hat
    iexact Htok

/-- The global step: the invariants of every device's cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp (MT nD τ sig Unit (Elt F) ℕ UU ℕ))
    ⊢ |={Set.univ}=> bigSep Finset.univ (G' m ρ) :=
  ((bigSep_mono fun c _ => core_alloc m ρ c).trans (bigSep_fupd _ _)).trans (BI.fupd_mono (regroup m ρ))

/-! ## The launch credit -/

/-- How many of the offsets in `l` the device `d` pays into cell `k` of device `c`, its tallies being at the cells `q d` of its peers. -/
def cnt (q : Dev nD → Cel) (c : Dev nD) (k : Cel) (d : Dev nD) (l : List (Fin 15)) : ℕ := l.countP fun r => decide (pf d r = c ∧ q d = k)
theorem tl_at (q : Dev nD → Cel) (n : ℕ) (c : Dev nD) (k : Cel) (d : Dev nD) :
    ∀ l : List (Fin 15), tl (fun r => tallyAt (kcell (pf d r) (q d)) () n) l (kcell c k) () = cnt q c k d l * n
  | [] => by show 0 = 0 * n; rw [Nat.zero_mul]
  | r :: l => by
    rw [tl_cons, Pi.add_apply, Finsupp.add_apply, tl_at q n c k d l]
    unfold cnt
    rw [List.countP_cons, Nat.add_mul]
    congr 1
    by_cases h : pf d r = c ∧ q d = k
    · obtain ⟨h1, h2⟩ := h
      subst h1 h2
      rw [tallyAt_apply, if_pos ⟨rfl, rfl⟩, if_pos (by simp), Nat.one_mul]
    · rw [tallyAt_ne_cell (fun e => h ⟨(kcell_inj e).1.symm, (kcell_inj e).2.symm⟩), if_neg (by simpa using h), Nat.zero_mul]
      rfl

/-- What all devices owe a cell. -/
theorem owed_at (c : Dev nD) (k : Cel) : ∑ d : Dev nD, O₀ d (kcell c k) ()
    = (∑ d : Dev nD, cnt (fun d => some (3, d)) c k d offs) * N + (∑ d : Dev nD, cnt (fun d => some (1, d)) c k d offs) * N
      + (∑ d : Dev nD, cnt (fun _ => none) c k d offs) * 1 := by
  rw [Finset.sum_mul, Finset.sum_mul, Finset.sum_mul, ← Finset.sum_add_distrib, ← Finset.sum_add_distrib]
  refine Finset.sum_congr rfl fun d _ => ?_
  rw [← tl_at (fun d => some (3, d)) N c k d offs, ← tl_at (fun d => some (1, d)) N c k d offs, ← tl_at (fun _ => none) 1 c k d offs]
  rfl

theorem tot_bar (c : Dev nD) : (∑ d : Dev nD, cnt (fun d => some (3, d)) c none d offs) = 0 ∧ (∑ d : Dev nD, cnt (fun d => some (1, d)) c none d offs) = 0
    ∧ (∑ d : Dev nD, cnt (fun _ => none) c none d offs) = 15 := by revert c; decide +kernel
theorem tot_rs (c : Dev nD) (r : Fin 15) : (∑ d : Dev nD, cnt (fun d => some (3, d)) c (some (1, bk c r)) d offs) = 0
    ∧ (∑ d : Dev nD, cnt (fun d => some (1, d)) c (some (1, bk c r)) d offs) = 1
    ∧ (∑ d : Dev nD, cnt (fun _ => none) c (some (1, bk c r)) d offs) = 0 := by revert c r; decide +kernel
theorem tot_ag (c : Dev nD) (r : Fin 15) : (∑ d : Dev nD, cnt (fun d => some (3, d)) c (some (3, bk c r)) d offs) = 1
    ∧ (∑ d : Dev nD, cnt (fun d => some (1, d)) c (some (3, bk c r)) d offs) = 0
    ∧ (∑ d : Dev nD, cnt (fun _ => none) c (some (3, bk c r)) d offs) = 0 := by revert c r; decide +kernel

theorem launch_at (c : Dev nD) (k : Cel) (n : ℕ) (h : ∑ d : Dev nD, O₀ d (kcell c k) () = n) :
    tallyOn (kcell c k) (launchCredit (Pipeline.owing O₀) 0 (kcell c k)) = (tallyAt (kcell c k) () n : CellTallies nD τ sig Unit) := by
  unfold tallyAt; refine congrArg _ (Finsupp.ext fun u => ?_); cases u
  rw [Pipeline.launchCredit_owing, h, Finsupp.single_eq_same]

theorem launch_bar (c : Dev nD) :
    tallyOn (kcell c none) (launchCredit (Pipeline.owing O₀) 0 (kcell c none)) = (tallyAt (kcell c none) () 15 : CellTallies nD τ sig Unit) :=
  launch_at c none 15 (by obtain ⟨h1, h2, h3⟩ := tot_bar c; rw [owed_at, h1, h2, h3, Nat.zero_mul])
theorem launch_rs (c : Dev nD) (r : Fin 15) :
    tallyOn (kcell c (some (1, bk c r))) (launchCredit (Pipeline.owing O₀) 0 (kcell c (some (1, bk c r)))) = (tallyAt (kcell c (some (1, bk c r))) () N : CellTallies nD τ sig Unit) :=
  launch_at c _ N (by obtain ⟨h1, h2, h3⟩ := tot_rs c r; rw [owed_at, h1, h2, h3]; simp only [Nat.zero_mul, Nat.one_mul, Nat.zero_add, Nat.add_zero])
theorem launch_ag (c : Dev nD) (r : Fin 15) :
    tallyOn (kcell c (some (3, bk c r))) (launchCredit (Pipeline.owing O₀) 0 (kcell c (some (3, bk c r)))) = (tallyAt (kcell c (some (3, bk c r))) () N : CellTallies nD τ sig Unit) :=
  launch_at c _ N (by obtain ⟨h1, h2, h3⟩ := tot_ag c r; rw [owed_at, h1, h2, h3]; simp only [Nat.zero_mul, Nat.one_mul, Nat.zero_add, Nat.add_zero])

theorem creds (c : Dev nD) : (Pipeline.launchCred O₀ c : sProp (MT nD τ sig Unit (Elt F) ℕ UU ℕ)) ⊢ credits c := by
  unfold Pipeline.launchCred credits
  have hs : (bigSep Finset.univ fun sm : SemLoc sig => cred (tallyOn ((c.tc : Thread nD τ), sm) (launchCredit (Pipeline.owing O₀) 0 ((c.tc : Thread nD τ), sm))) : sProp (MT nD τ sig Unit (Elt F) ℕ UU ℕ))
      ⊢ bigSep Finset.univ fun k : Cel => cred (tallyOn (kcell c k) (launchCredit (Pipeline.owing O₀) 0 (kcell c k))) := by
    refine BI.Entails.trans (bigSep_subset (Φ := fun sm : SemLoc sig => (cred (tallyOn ((c.tc : Thread nD τ), sm) (launchCredit (Pipeline.owing O₀) 0 ((c.tc : Thread nD τ), sm))) : sProp (MT nD τ sig Unit (Elt F) ℕ UU ℕ)))
      (Finset.subset_univ (Finset.univ.map ⟨csem, csem_inj⟩))) ?_
    rw [bigSep_map]
    exact BI.Entails.refl _
  refine hs.trans ?_
  rw [bigSep_cel, bigSep_fin4, bigSep_bk c, bigSep_bk c (fun j => cred (tallyOn (kcell c (some (3, j))) (launchCredit (Pipeline.owing O₀) 0 (kcell c (some (3, j)))))),
    bigSep_bk c (fun j => cred (tallyOn (kcell c (some (1, j))) (launchCredit (Pipeline.owing O₀) 0 (kcell c (some (1, j)))))), launch_bar,
    bigSep_congr fun r _ => congrArg cred (launch_rs c r), bigSep_congr (Φ := fun r => cred (tallyOn (kcell c (some (3, bk c r))) (launchCredit (Pipeline.owing O₀) 0 (kcell c (some (3, bk c r)))))) fun r _ => congrArg cred (launch_ag c r)]
  iintro ⟨HB, -, ⟨-, H1⟩, -, -, H3⟩
  isplitl [HB]; · iexact HB
  isplitl [H1] <;> iassumption

/-! ## The conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, HzB, Hz⟩
  isplitl [HzB]; · iexact HzB
  isplitl [Hz]; · iexact Hz
  iexact Hr

theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- On the mesh of sixteen devices, for any float values and from any memory with zero counters: every weakly fair
    execution of the program ends, with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it was. -/
theorem finalA_x (c : Dev nD) : finalA m ρ c (0 : Fin 2) = (s₀ m ρ).mem ((c : Thread nD τ).loc main_arg0) :=
  (dats (F := F) m ρ 0 c).arrAt_in (0 : Fin 2) rfl _

/-- The result's array ends holding the result. -/
theorem finalA_o (c : Dev nD) : finalA m ρ c (1 : Fin 2) = (outF m ρ : (main_v1 : Ref sig .tc).ty.Contents (Elt F)) := by
  refine (dats m ρ 0 c).arrAt_eq_of_after_last 1 t0_0 (by decide +kernel) _ fun j => ?_
  blk_simp
  rfl

end Cert.KernelIdeal.Proto

end
-- ==== Proof.Value.lean ====
module

public import proofs.«01_k».proof.Proof.Launch
public import proofs.«01_k».proof.Proof.Gen.ReferenceIdeal.Run
public import Idealize.ShloMosaic.Lib.IdealHost
public import Idealize.ShloMosaic.Lib.ValueLayout
public import Idealize.ShloMosaic.Lib.Pointwise.Reduce
public import Idealize.ShloMosaic.PureOps.Ideal.Laws

/-! # The value

Over the extended reals a block's accumulator is its owner's block and the fifteen arrivals added in ring order; the
reference adds the sixteen blocks in device order, to a zero. A sum does not depend on its order, so the two are one
number at every index, and what follows the sum is the same text on both sides. -/

@[expose] public section

noncomputable section

namespace Cert.KernelIdeal.Proto

open Cert.KernelIdeal Cert.KernelIdeal.Gen Cert.KernelIdeal.Loops

open Idealize.ShloMosaic
open Idealize.ShloMosaic.TcCoe
open Idealize.SL.Sem

variable (m : (ℓ : Loc nD τ sig) → Buf (Elt Ideal) ℓ) (ρ : Dev nD → PrngReg)

/-- The staged argument is the argument. -/
theorem xstg_eq (c : Dev nD) : xstg m ρ c = m ((c : Thread nD τ).loc main_arg0) := by
  unfold xstg
  funext i
  show m ((c : Thread nD τ).loc main_arg0) ((win0_0.blk t0_0).view.emb i) = _
  refine congrArg _ ?_
  funext a
  fin_cases a <;> refine Fin.ext ?_
  · blk_simp
    show 0 * 1024 + _ = _
    rw [Nat.zero_mul, Nat.zero_add]
  · blk_simp
    show 0 * 512 + _ = _
    rw [Nat.zero_mul, Nat.zero_add]

/-- The sum of the devices' blocks `d` at an index, over the arguments `x`. -/
def total (x : Dev nD → FVec Ideal S1024x512 .f32) (i : S1024x512.Idx) : EReal := ∑ c : Dev nD, x c i

/-- One element of what device `c` sends to device `d` is the element of its argument in that row. -/
theorem sendX_apply (c d : Dev nD) (j : S64x512.Idx) :
    sendX m ρ c d j = (m ((c : Thread nD τ).loc main_arg0) : FVec Ideal S1024x512 .f32) ((oRow d).view.emb j) := by
  unfold sendX k0_pay1 blkX
  rw [xstg_eq]
  simp only [shapeCast_self]
  rfl

/-- One element of a device's own block. -/
theorem own_apply (c d : Dev nD) (j : S64x512.Idx) :
    k0_pay17 (blkX m ρ c d) j = (m ((c : Thread nD τ).loc main_arg0) : FVec Ideal S1024x512 .f32) ((oRow d).view.emb j) := by
  unfold k0_pay17 blkX
  rw [xstg_eq]
  simp only [shapeCast_self]
  rfl

/-- One step of the accumulation is an addition at every index. -/
theorem accAdd_apply (v : FVec Ideal S64x512 .f32) (y : FVec Ideal S64x512 .bf16) (j : S64x512.Idx) :
    accAdd v y j = (v j + y j : EReal) := by
  unfold accAdd
  simp only [shapeCast_self]
  rfl

/-- The accumulator after a list of arrivals is the start and their sum. -/
theorem accL_apply (c : Dev nD) (l : List (Fin 15)) (A : FVec Ideal S64x512 .f32) (j : S64x512.Idx) :
    accL m ρ c A l j = (A j + (l.map fun r => (sendX m ρ (bk c r) c j : EReal)).sum : EReal) := by
  induction l generalizing A with
  | nil => exact (add_zero _).symm
  | cons r l ih =>
    refine (ih (accAdd A (sendX m ρ (bk c r) c))).trans ?_
    rw [accAdd_apply, List.map_cons, List.sum_cons, add_assoc]

/-- The finished accumulator is the sum over all devices. -/
theorem accF_apply (d : Dev nD) (j : S64x512.Idx) :
    accF m ρ d j = total (fun c => m ((c : Thread nD τ).loc main_arg0)) ((oRow d).view.emb j) := by
  unfold accF total
  rw [accL_apply, own_apply, univ_bk d, Finset.sum_insert (fun h => by obtain ⟨r, -, e⟩ := Finset.mem_image.mp h; exact bk_ne d r e),
    Finset.sum_image ((bk_inj d).injOn)]
  refine congrArg _ ?_
  simp only [sendX_apply]
  rw [← List.sum_toFinset _ (by decide : offs.Nodup)]
  exact Finset.sum_congr (by decide) fun _ _ => rfl

/-- What both programs do to the sum at an index. -/
def epilogue (s : EReal) : EReal :=
  Ideal.tanh s * s * s + max s (Ideal.ofBits .f32 0x00000000#32) * max s (Ideal.ofBits .f32 0x00000000#32) * max s (Ideal.ofBits .f32 0x00000000#32)

/-- The kernel's result at an index. -/
theorem outF_apply (i : S1024x512.Idx) :
    outF m ρ i = epilogue (total (fun c => m ((c : Thread nD τ).loc main_arg0)) i) := by
  have hi : (i 0).val < 1024 := (i 0).isLt
  refine (show outF m ρ i = epilogue (accF m ρ _ _) from rfl).trans ?_
  refine congrArg epilogue ((accF_apply m ρ _ _).trans (congrArg _ ?_))
  obtain ⟨h0, h1⟩ := row_emb (⟨(i 0).val / 64, Nat.div_lt_of_lt_mul hi⟩ : Dev nD) (ix2 (⟨(i 0).val % 64, Nat.mod_lt _ (by decide)⟩ : Fin 64) (i 1))
  funext a
  fin_cases a
  · refine Fin.ext (h0.trans ?_)
    change 64 * ((i 0).val / 64) + (i 0).val % 64 = (i 0).val
    omega
  · exact h1

end Cert.KernelIdeal.Proto

namespace Cert.ReferenceIdeal.Value

open Cert.ReferenceIdeal Cert.ReferenceIdeal.Gen Idealize.ShloMosaic
open Cert.KernelIdeal.Proto (epilogue total)

/-- The reference's sum over the leading axis of its reshaped argument. -/
def sumOf (X : FVec Ideal S16384x512 .f32) : FVec Ideal S1024x512 .f32 :=
  Host.reduceAdd (shapeCast _ X shapeCasts_S16384x512_S16x1024x512) (constant S_ .f32 0x00000000#32)
    reducesTo_S16x1024x512_S1024x512_d0 h_S_

/-- The reference's result, as a function of its argument. -/
def result (X : FVec Ideal S16384x512 .f32) : FVec Ideal S1024x512 .bf16 :=
  truncf .bf16 (addf (mulf (mulf (Host.tanh (sumOf X)) (sumOf X)) (sumOf X))
    (mulf (mulf (maximumf (sumOf X) (broadcastInDim S1024x512 ![] bcast_S_S1024x512 (constant S_ .f32 0x00000000#32)))
      (maximumf (sumOf X) (broadcastInDim S1024x512 ![] bcast_S_S1024x512 (constant S_ .f32 0x00000000#32))))
      (maximumf (sumOf X) (broadcastInDim S1024x512 ![] bcast_S_S1024x512 (constant S_ .f32 0x00000000#32))))) bitsLt_bf16_f32

/-- At an index it is the sum there, and what follows the sum. -/
theorem result_apply (X : FVec Ideal S16384x512 .f32) (i : S1024x512.Idx) : result X i = epilogue (sumOf X i) := rfl

/-- Element `(c, i)` of the reshaped argument is element `i` of block `c` of the rows. -/
theorem reshape_apply (X : FVec Ideal S16384x512 .f32) (c : Fin 16) (i : S1024x512.Idx) :
    shapeCast S16x1024x512 X shapeCasts_S16384x512_S16x1024x512 (ix3 c (i 0) (i 1) : S16x1024x512.Idx)
      = (Layout.block ⟨2, ![1024, 512]⟩ ⟨2, ![16384, 512]⟩ 0 16 c X : FVec Ideal S1024x512 .f32) i := by
  refine congrArg X (Shape.reshapeEquiv_eq_of_rowMajor _ ?_)
  rw [Shape.rowMajor_val_two, Shape.rowMajor_val_three]
  show (c.val * 1024 + (i 0).val) * 512 + (i 1).val = (c.val * 1024 + (i 0).val) * 512 + (i 1).val
  rfl

/-- The reference's sum at an index is the sum of the blocks there. -/
theorem sumOf_apply (X : FVec Ideal S16384x512 .f32) (i : S1024x512.Idx) :
    sumOf X i = total (fun c => Layout.block ⟨2, ![1024, 512]⟩ ⟨2, ![16384, 512]⟩ 0 16 c X) i := by
  unfold sumOf total
  rw [ValueIdx.hostReduceAdd_apply, Ideal.hostReduceAdd_r3_a0]
  refine (congrArg₂ (· + ·) (show constant (F := Ideal) S_ .f32 0x00000000#32 _ = (0 : EReal) from Ideal.ofBits_zero_f32) rfl).trans ?_
  rw [zero_add]
  exact Finset.sum_congr rfl fun c _ => reshape_apply X c i

/-- **The values agree.** Where each device's argument is its block of the reference's, the kernel's result is the
    reference's, whole, on every device. -/
theorem out_eq (m : (ℓ : Loc Cert.KernelIdeal.nD Cert.KernelIdeal.τ Cert.KernelIdeal.sig) → Buf (Elt Ideal) ℓ)
    (ρ : Dev Cert.KernelIdeal.nD → PrngReg) (X : FVec Ideal S16384x512 .f32)
    (h : ∀ c : Dev Cert.KernelIdeal.nD, m ((c.tc : Thread Cert.KernelIdeal.nD Cert.KernelIdeal.τ).loc Cert.KernelIdeal.main_arg0)
      = Layout.block ⟨2, ![1024, 512]⟩ ⟨2, ![16384, 512]⟩ 0 16 c X) :
    (Cert.KernelIdeal.Proto.outF m ρ : FVec Ideal S1024x512 .bf16) = result X := by
  funext i
  refine (Cert.KernelIdeal.Proto.outF_apply m ρ i).trans ?_
  rw [result_apply, sumOf_apply]
  exact congrArg epilogue (congrArg (fun x => total x i) (funext h))

end Cert.ReferenceIdeal.Value

end
-- ==== Proof.Claims.lean ====
module

public import proofs.«01_k».proof.Defs
public import proofs.«01_k».proof.Proof.Value
public import proofs.«01_k».proof.Proof.Gen.Kernel

/-! # The claims

Each claim of the statement read off the run of the program on the mesh, the run of the reference, and the equality of
their values. -/

@[expose] public section

noncomputable section

namespace Cert.Proof

open Idealize.ShloMosaic Idealize.ShloMosaic.TcCoe Idealize.SL.Sem
open Cert.KernelIdeal.Proto (run_main finalA_x finalA_o outF QC)

/-- The run over any float values, read at the argument and the counters: both end as they began. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (finalA_x m ρ c), h.2⟩) (run_main m ρ)

attribute [local instance] Cert.Kernel.Gen.facts Cert.KernelIdeal.Gen.facts

/-- The kernel's and the idealized kernel's definitions are one, over any float values: their texts are the same. -/
theorem defs₀_same {F : FTy → Type} [FloatOps F] : Cert.Kernel.defs₀ (F := F) = Cert.KernelIdeal.defs₀ (F := F) :=
  congrArg Defs.onTc (funext fun l => funext fun x => by
    match l, x with
    | 0, (_, _) => rfl)

/-- The same of the definitions of the whole program. -/
theorem defs_same {F : FTy → Type} [FloatOps F] : Cert.Kernel.defs (F := F) = Cert.KernelIdeal.defs (F := F) :=
  congrArg (Pipeline.defs Cert.KernelIdeal.pcfgs) defs₀_same

/-- The kernel terminates without a fault, its argument unchanged and every counter at zero, at bit patterns. Its text is
    the idealized program's, whose run is over any float values. -/
theorem frame_kernel : Cert.quiescent_Kernel := fun m ρ _ =>
  (congrArg (fun D => θ_run D (onTc (τ := Cert.KernelIdeal.τ) (Cert.KernelIdeal.main (F := Bits))) ⟨m, fun _ => 0, ρ⟩ _) defs_same).mpr
    (frame_any (F := Bits) m ρ)

/-- The same over the extended reals. -/
theorem frame_kernelIdeal : Cert.quiescent_KernelIdeal (hKernelIdeal := Cert.KernelIdeal.Gen.facts) := fun m ρ _ =>
  frame_any (F := Ideal) m ρ

/-- The reference terminates with its argument unchanged; it declares no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, from memories where each device's argument is its block of rows of the reference's: every
    device of the kernel ends with the reference's whole result. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨Cert.ReferenceIdeal.Value.result (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
      ⟨((h.1 c (1 : Fin 2)).trans (finalA_o m ρ c)).trans (Cert.ReferenceIdeal.Value.out_eq m ρ _ hm),
        (h.1 c (0 : Fin 2)).trans (finalA_x m ρ c)⟩) (run_main m ρ),
    (θ_run Cert.ReferenceIdeal.defs _ _).mono (fun _ h => h 0) (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything stated: the three frames, that the idealization rewrites nothing, and the value. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
